-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S8192x1024 : Shape := ⟨2, ![8192, 1024]⟩
abbrev S8x1024 : Shape := ⟨2, ![8, 1024]⟩
abbrev S8x2048x1024 : Shape := ⟨3, ![8, 2048, 1024]⟩
abbrev S8x2048 : Shape := ⟨2, ![8, 2048]⟩
abbrev S8x1024x2048 : Shape := ⟨3, ![8, 1024, 2048]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S8192x1024 .f32) (main_arg1 : FVec F S8x1024 .f32) (main_arg2 : FVec F S8x2048x1024 .f32) (main_arg3 : FVec F S8x2048 .f32) (main_arg4 : FVec F S8x1024x2048 .f32) (main_arg5 : FVec F S8x1024 .f32) (main_arg6 : FVec F S2048x1024 .f32) (main_arg7 : FVec F S2048 .f32) (main_arg8 : FVec F S1024x2048 .f32) (main_arg9 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Kernel.lean ====
abbrev S8192x1024 : Shape := ⟨2, ![8192, 1024]⟩
abbrev S8x1024 : Shape := ⟨2, ![8, 1024]⟩
abbrev S8x2048x1024 : Shape := ⟨3, ![8, 2048, 1024]⟩
abbrev S8x2048 : Shape := ⟨2, ![8, 2048]⟩
abbrev S8x1024x2048 : Shape := ⟨3, ![8, 1024, 2048]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S1x2048 : Shape := ⟨2, ![1, 2048]⟩
abbrev S1x1024 : Shape := ⟨2, ![1, 1024]⟩
abbrev S256x1024 : Shape := ⟨2, ![256, 1024]⟩
abbrev S8x128x1024 : Shape := ⟨3, ![8, 128, 1024]⟩
abbrev S8x1024x128 : Shape := ⟨3, ![8, 1024, 128]⟩
abbrev S8192x8 : Shape := ⟨2, ![8192, 8]⟩
abbrev S1x8 : Shape := ⟨2, ![1, 8]⟩
abbrev S256x8 : Shape := ⟨2, ![256, 8]⟩
abbrev S8 : Shape := ⟨1, ![8]⟩
abbrev S256x2048 : Shape := ⟨2, ![256, 2048]⟩
abbrev S1x128x1024 : Shape := ⟨3, ![1, 128, 1024]⟩
abbrev S128x1024 : Shape := ⟨2, ![128, 1024]⟩
abbrev S1x128 : Shape := ⟨2, ![1, 128]⟩
abbrev S1x1 : Shape := ⟨2, ![1, 1]⟩
abbrev S1x1024x128 : Shape := ⟨3, ![1, 1024, 128]⟩
abbrev S1024x128 : Shape := ⟨2, ![1024, 128]⟩
abbrev S256 : Shape := ⟨1, ![256]⟩
abbrev S256x1 : Shape := ⟨2, ![256, 1]⟩

abbrev nBuf : Space → Nat
  | .hbm => 13
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S8x2048x1024, .f32⟩
  | .hbm, ⟨3, _⟩ => ⟨S8x2048, .f32⟩
  | .hbm, ⟨4, _⟩ => ⟨S8x1024x2048, .f32⟩
  | .hbm, ⟨5, _⟩ => ⟨S8x1024, .f32⟩
  | .hbm, ⟨6, _⟩ => ⟨S2048x1024, .f32⟩
  | .hbm, ⟨7, _⟩ => ⟨S2048, .f32⟩
  | .hbm, ⟨8, _⟩ => ⟨S1024x2048, .f32⟩
  | .hbm, ⟨9, _⟩ => ⟨S1024, .f32⟩
  | .hbm, ⟨10, _⟩ => ⟨S1x2048, .f32⟩
  | .hbm, ⟨11, _⟩ => ⟨S1x1024, .f32⟩
  | .hbm, ⟨12, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x128x1024, .f32⟩
  | .local _ .vmem, ⟨4, _⟩ => ⟨S8x128x1024, .f32⟩
  | .local _ .vmem, ⟨5, _⟩ => ⟨S8x2048, .f32⟩
  | .local _ .vmem, ⟨6, _⟩ => ⟨S8x1024x128, .f32⟩
  | .local _ .vmem, ⟨7, _⟩ => ⟨S8x1024x128, .f32⟩
  | .local _ .vmem, ⟨8, _⟩ => ⟨S8x1024, .f32⟩
  | .local _ .vmem, ⟨9, _⟩ => ⟨S2048x1024, .f32⟩
  | .local _ .vmem, ⟨10, _⟩ => ⟨S1x2048, .f32⟩
  | .local _ .vmem, ⟨11, _⟩ => ⟨S1024x2048, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S8192x8, .f32⟩
  | .local _ .vmem, ⟨16, _⟩ => ⟨S1x8, .f32⟩
  | .local _ .vmem, ⟨17, _⟩ => ⟨S8x1024, .f32⟩
  | .local _ .vmem, ⟨18, _⟩ => ⟨S8x2048, .f32⟩
  | .local _ .vmem, ⟨19, _⟩ => ⟨S8x1024, .f32⟩
  | .local _ .vmem, ⟨20, _⟩ => ⟨S8192x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![3, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c256_i32 : BitVec 32 := 256#32
  let v17 : BitVec 32 := Scalar.muli arg1 c256_i32
  let v18 : Index := Scalar.indexCast v17
  let c0_9 : Index := 0#32
  ![v18.toNat, 0]
def k0_cond3 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg1 : BitVec 32 := BitVec.ofNat 32 (i 1).val
  let c256_i32 : BitVec 32 := 256#32
  let v36 : BitVec 32 := Scalar.muli arg1 c256_i32
  let v37 : Index := Scalar.indexCast v36
  let c0_17 : Index := 0#32
  ![v37.toNat, 0]
def k0_cond4 (i : grid0.Coords) : BitVec 1 :=
  let arg1 : BitVec 32 := BitVec.ofNat 32 (i 1).val
  let c16_i32 : BitVec 32 := 16#32
  let v44 : BitVec 1 := Scalar.cmpi .slt arg1 c16_i32
  let v45 : BitVec 32 := Scalar.extui v44
  let c0_i32_21 : BitVec 32 := 0#32
  let v46 : BitVec 1 := Scalar.cmpi .ne v45 c0_i32_21
  v46

def k0_off3 (i : grid0.Coords) : Fin 2 → Nat :=
  let c0_32 : Index := 0#32
  let arg1 : BitVec 32 := BitVec.ofNat 32 (i 1).val
  let c128_i32 : BitVec 32 := 128#32
  let v60 : BitVec 32 := Scalar.muli arg1 c128_i32
  let v61 : Index := Scalar.indexCast v60
  ![0, v61.toNat]
def k0_off4 (i : grid0.Coords) : Fin 2 → Nat :=
  let c1_45 : Index := 1#32
  let arg1 : BitVec 32 := BitVec.ofNat 32 (i 1).val
  let c128_i32_44 : BitVec 32 := 128#32
  let v89 : BitVec 32 := Scalar.muli arg1 c128_i32_44
  let v90 : Index := Scalar.indexCast v89
  ![1, v90.toNat]
def k0_off5 (i : grid0.Coords) : Fin 2 → Nat :=
  let c2_58 : Index := 2#32
  let arg1 : BitVec 32 := BitVec.ofNat 32 (i 1).val
  let c128_i32_57 : BitVec 32 := 128#32
  let v118 : BitVec 32 := Scalar.muli arg1 c128_i32_57
  let v119 : Index := Scalar.indexCast v118
  ![2, v119.toNat]
def k0_off6 (i : grid0.Coords) : Fin 2 → Nat :=
  let c3_71 : Index := 3#32
  let arg1 : BitVec 32 := BitVec.ofNat 32 (i 1).val
  let c128_i32_70 : BitVec 32 := 128#32
  let v147 : BitVec 32 := Scalar.muli arg1 c128_i32_70
  let v148 : Index := Scalar.indexCast v147
  ![3, v148.toNat]
def k0_off7 (i : grid0.Coords) : Fin 2 → Nat :=
  let c4_84 : Index := 4#32
  let arg1 : BitVec 32 := BitVec.ofNat 32 (i 1).val
  let c128_i32_83 : BitVec 32 := 128#32
  let v176 : BitVec 32 := Scalar.muli arg1 c128_i32_83
  let v177 : Index := Scalar.indexCast v176
  ![4, v177.toNat]
def k0_off8 (i : grid0.Coords) : Fin 2 → Nat :=
  let c5_97 : Index := 5#32
  let arg1 : BitVec 32 := BitVec.ofNat 32 (i 1).val
  let c128_i32_96 : BitVec 32 := 128#32
  let v205 : BitVec 32 := Scalar.muli arg1 c128_i32_96
  let v206 : Index := Scalar.indexCast v205
  ![5, v206.toNat]
def k0_off9 (i : grid0.Coords) : Fin 2 → Nat :=
  let c6_110 : Index := 6#32
  let arg1 : BitVec 32 := BitVec.ofNat 32 (i 1).val
  let c128_i32_109 : BitVec 32 := 128#32
  let v234 : BitVec 32 := Scalar.muli arg1 c128_i32_109
  let v235 : Index := Scalar.indexCast v234
  ![6, v235.toNat]
def k0_off10 (i : grid0.Coords) : Fin 2 → Nat :=
  let c7_123 : Index := 7#32
  let arg1 : BitVec 32 := BitVec.ofNat 32 (i 1).val
  let c128_i32_122 : BitVec 32 := 128#32
  let v263 : BitVec 32 := Scalar.muli arg1 c128_i32_122
  let v264 : Index := Scalar.indexCast v263
  ![7, v264.toNat]
def k0_cond6 (i : grid0.Coords) : BitVec 1 :=
  let arg1 : BitVec 32 := BitVec.ofNat 32 (i 1).val
  let c16_i32_24 : BitVec 32 := 16#32
  let v50 : BitVec 1 := Scalar.cmpi .sge arg1 c16_i32_24
  let v51 : BitVec 32 := Scalar.extui v50
  let c0_i32_25 : BitVec 32 := 0#32
  let v52 : BitVec 1 := Scalar.cmpi .ne v51 c0_i32_25
  v52

def k0_off11 (i : grid0.Coords) : Fin 2 → Nat :=
  let c0_29 : Index := 0#32
  let arg1 : BitVec 32 := BitVec.ofNat 32 (i 1).val
  let c16_i32_26 : BitVec 32 := 16#32
  let v53 : BitVec 32 := Scalar.subi arg1 c16_i32_26
  let c128_i32 : BitVec 32 := 128#32
  let v55 : BitVec 32 := Scalar.muli v53 c128_i32
  let v56 : Index := Scalar.indexCast v55
  ![0, v56.toNat]
def k0_off12 (i : grid0.Coords) : Fin 2 → Nat :=
  let c1_38 : Index := 1#32
  let arg1 : BitVec 32 := BitVec.ofNat 32 (i 1).val
  let c16_i32_26 : BitVec 32 := 16#32
  let v53 : BitVec 32 := Scalar.subi arg1 c16_i32_26
  let c128_i32_37 : BitVec 32 := 128#32
  let v66 : BitVec 32 := Scalar.muli v53 c128_i32_37
  let v67 : Index := Scalar.indexCast v66
  ![1, v67.toNat]
def k0_off13 (i : grid0.Coords) : Fin 2 → Nat :=
  let c2_47 : Index := 2#32
  let arg1 : BitVec 32 := BitVec.ofNat 32 (i 1).val
  let c16_i32_26 : BitVec 32 := 16#32
  let v53 : BitVec 32 := Scalar.subi arg1 c16_i32_26
  let c128_i32_46 : BitVec 32 := 128#32
  let v77 : BitVec 32 := Scalar.muli v53 c128_i32_46
  let v78 : Index := Scalar.indexCast v77
  ![2, v78.toNat]
def k0_off14 (i : grid0.Coords) : Fin 2 → Nat :=
  let c3_56 : Index := 3#32
  let arg1 : BitVec 32 := BitVec.ofNat 32 (i 1).val
  let c16_i32_26 : BitVec 32 := 16#32
  let v53 : BitVec 32 := Scalar.subi arg1 c16_i32_26
  let c128_i32_55 : BitVec 32 := 128#32
  let v88 : BitVec 32 := Scalar.muli v53 c128_i32_55
  let v89 : Index := Scalar.indexCast v88
  ![3, v89.toNat]
def k0_off15 (i : grid0.Coords) : Fin 2 → Nat :=
  let c4_65 : Index := 4#32
  let arg1 : BitVec 32 := BitVec.ofNat 32 (i 1).val
  let c16_i32_26 : BitVec 32 := 16#32
  let v53 : BitVec 32 := Scalar.subi arg1 c16_i32_26
  let c128_i32_64 : BitVec 32 := 128#32
  let v99 : BitVec 32 := Scalar.muli v53 c128_i32_64
  let v100 : Index := Scalar.indexCast v99
  ![4, v100.toNat]
def k0_off16 (i : grid0.Coords) : Fin 2 → Nat :=
  let c5_74 : Index := 5#32
  let arg1 : BitVec 32 := BitVec.ofNat 32 (i 1).val
  let c16_i32_26 : BitVec 32 := 16#32
  let v53 : BitVec 32 := Scalar.subi arg1 c16_i32_26
  let c128_i32_73 : BitVec 32 := 128#32
  let v110 : BitVec 32 := Scalar.muli v53 c128_i32_73
  let v111 : Index := Scalar.indexCast v110
  ![5, v111.toNat]
def k0_off17 (i : grid0.Coords) : Fin 2 → Nat :=
  let c6_83 : Index := 6#32
  let arg1 : BitVec 32 := BitVec.ofNat 32 (i 1).val
  let c16_i32_26 : BitVec 32 := 16#32
  let v53 : BitVec 32 := Scalar.subi arg1 c16_i32_26
  let c128_i32_82 : BitVec 32 := 128#32
  let v121 : BitVec 32 := Scalar.muli v53 c128_i32_82
  let v122 : Index := Scalar.indexCast v121
  ![6, v122.toNat]
def k0_off18 (i : grid0.Coords) : Fin 2 → Nat :=
  let c7_92 : Index := 7#32
  let arg1 : BitVec 32 := BitVec.ofNat 32 (i 1).val
  let c16_i32_26 : BitVec 32 := 16#32
  let v53 : BitVec 32 := Scalar.subi arg1 c16_i32_26
  let c128_i32_91 : BitVec 32 := 128#32
  let v132 : BitVec 32 := Scalar.muli v53 c128_i32_91
  let v133 : Index := Scalar.indexCast v132
  ![7, v133.toNat]
def k0_cond7 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_off19 (i : grid0.Coords) : Fin 2 → Nat :=
  let arg1 : BitVec 32 := BitVec.ofNat 32 (i 1).val
  let c256_i32 : BitVec 32 := 256#32
  let v9 : BitVec 32 := Scalar.muli arg1 c256_i32
  let v10 : Index := Scalar.indexCast v9
  let c0 : Index := 0#32
  ![v10.toNat, 0]
def k0_off20 (i : grid0.Coords) : Fin 2 → Nat :=
  let arg1 : BitVec 32 := BitVec.ofNat 32 (i 1).val
  let c256_i32_4 : BitVec 32 := 256#32
  let v21 : BitVec 32 := Scalar.muli arg1 c256_i32_4
  let v22 : Index := Scalar.indexCast v21
  let c0_5 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 c0_i32 arg1
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 1 := Scalar.cmpi .eq arg0 c1_i32
  let c15_i32 : BitVec 32 := 15#32
  let v2 : BitVec 32 := Scalar.minsi arg1 c15_i32
  let c15_i32_0 : BitVec 32 := 15#32
  let v3 : BitVec 32 := Scalar.select v1 v2 c15_i32_0
  let c0_i32_1 : BitVec 32 := 0#32
  let v4 : BitVec 32 := Scalar.select v0 c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 1 := Scalar.cmpi .eq arg0 c1_i32
  let c16_i32 : BitVec 32 := 16#32
  let v2 : BitVec 32 := Scalar.subi arg1 c16_i32
  let c0_i32_0 : BitVec 32 := 0#32
  let c15_i32 : BitVec 32 := 15#32
  let v3 : BitVec 32 := Scalar.maxsi c0_i32_0 v2
  let v4 : BitVec 32 := Scalar.minsi c15_i32 v3
  let c15_i32_1 : BitVec 32 := 15#32
  let v5 : BitVec 32 := Scalar.select v1 v4 c15_i32_1
  let c0_i32_2 : BitVec 32 := 0#32
  let v6 : BitVec 32 := Scalar.select v0 c0_i32_2 v5
  let c0_i32_3 : BitVec 32 := 0#32
  let c0_i32_4 : BitVec 32 := 0#32
  let c0_i32_5 : BitVec 32 := 0#32
  ![c0_i32_3.toNat, c0_i32_4.toNat, v6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x1024 : Shape := ⟨2, ![8192, 1024]⟩
abbrev S8x1024 : Shape := ⟨2, ![8, 1024]⟩
abbrev S8x2048x1024 : Shape := ⟨3, ![8, 2048, 1024]⟩
abbrev S8x2048 : Shape := ⟨2, ![8, 2048]⟩
abbrev S8x1024x2048 : Shape := ⟨3, ![8, 1024, 2048]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S1024x8 : Shape := ⟨2, ![1024, 8]⟩
abbrev S8192x8 : Shape := ⟨2, ![8192, 8]⟩
abbrev S_ : Shape := ⟨0, ![]⟩
abbrev S8 : Shape := ⟨1, ![8]⟩
abbrev S1x8 : Shape := ⟨2, ![1, 8]⟩
abbrev S8192 : Shape := ⟨1, ![8192]⟩
abbrev S8192x1 : Shape := ⟨2, ![8192, 1]⟩
abbrev S8x8192 : Shape := ⟨2, ![8, 8192]⟩
abbrev S8x1x1024 : Shape := ⟨3, ![8, 1, 1024]⟩
abbrev S8x1x2048 : Shape := ⟨3, ![8, 1, 2048]⟩
abbrev S8192x2048 : Shape := ⟨2, ![8192, 2048]⟩
abbrev S1x2048 : Shape := ⟨2, ![1, 2048]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S8x2048x1024, .f32⟩
  | .hbm, ⟨3, _⟩ => ⟨S8x2048, .f32⟩
  | .hbm, ⟨4, _⟩ => ⟨S8x1024x2048, .f32⟩
  | .hbm, ⟨5, _⟩ => ⟨S8x1024, .f32⟩
  | .hbm, ⟨6, _⟩ => ⟨S2048x1024, .f32⟩
  | .hbm, ⟨7, _⟩ => ⟨S2048, .f32⟩
  | .hbm, ⟨8, _⟩ => ⟨S1024x2048, .f32⟩
  | .hbm, ⟨9, _⟩ => ⟨S1024, .f32⟩
  | .hbm, ⟨10, _⟩ => ⟨S1024x8, .f32⟩
  | .hbm, ⟨11, _⟩ => ⟨S8192x8, .f32⟩
  | .hbm, ⟨12, _⟩ => ⟨S_, .f32⟩
  | .hbm, ⟨13, _⟩ => ⟨S8192x8, .f32⟩
  | .hbm, ⟨14, _⟩ => ⟨S8192x8, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S1x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S_, .f32⟩
  | .hbm, ⟨25, _⟩ => ⟨S8, .f32⟩
  | .hbm, ⟨26, _⟩ => ⟨S1x8, .f32⟩
  | .hbm, ⟨27, _⟩ => ⟨S8192x8, .f32⟩
  | .hbm, ⟨28, _⟩ => ⟨S8192x8, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x8, .f32⟩
  | .hbm, ⟨36, _⟩ => ⟨S8192x8, .f32⟩
  | .hbm, ⟨37, _⟩ => ⟨S8192x8, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x8, .f32⟩
  | .hbm, ⟨42, _⟩ => ⟨S8192x8, .f32⟩
  | .hbm, ⟨43, _⟩ => ⟨S8x8192, .f32⟩
  | .hbm, ⟨44, _⟩ => ⟨S8x1024, .f32⟩
  | .hbm, ⟨45, _⟩ => ⟨S8x1x1024, .f32⟩
  | .hbm, ⟨46, _⟩ => ⟨S8x1x2048, .f32⟩
  | .hbm, ⟨47, _⟩ => ⟨S8x1x2048, .f32⟩
  | .hbm, ⟨48, _⟩ => ⟨S8x1x2048, .f32⟩
  | .hbm, ⟨49, _⟩ => ⟨S8x1x2048, .f32⟩
  | .hbm, ⟨50, _⟩ => ⟨S8x1x2048, .f32⟩
  | .hbm, ⟨51, _⟩ => ⟨S_, .f32⟩
  | .hbm, ⟨52, _⟩ => ⟨S8x1x2048, .f32⟩
  | .hbm, ⟨53, _⟩ => ⟨S8x1x2048, .f32⟩
  | .hbm, ⟨54, _⟩ => ⟨S8x1x2048, .f32⟩
  | .hbm, ⟨55, _⟩ => ⟨S_, .f32⟩
  | .hbm, ⟨56, _⟩ => ⟨S8x1x2048, .f32⟩
  | .hbm, ⟨57, _⟩ => ⟨S8x1x2048, .f32⟩
  | .hbm, ⟨58, _⟩ => ⟨S8x1x2048, .f32⟩
  | .hbm, ⟨59, _⟩ => ⟨S_, .f32⟩
  | .hbm, ⟨60, _⟩ => ⟨S8x1x2048, .f32⟩
  | .hbm, ⟨61, _⟩ => ⟨S8x1x2048, .f32⟩
  | .hbm, ⟨62, _⟩ => ⟨S_, .f32⟩
  | .hbm, ⟨63, _⟩ => ⟨S8x1x2048, .f32⟩
  | .hbm, ⟨64, _⟩ => ⟨S8x1x2048, .f32⟩
  | .hbm, ⟨65, _⟩ => ⟨S8x1x2048, .f32⟩
  | .hbm, ⟨66, _⟩ => ⟨S8x1x1024, .f32⟩
  | .hbm, ⟨67, _⟩ => ⟨S8x1x1024, .f32⟩
  | .hbm, ⟨68, _⟩ => ⟨S8x1x1024, .f32⟩
  | .hbm, ⟨69, _⟩ => ⟨S8x1024, .f32⟩
  | .hbm, ⟨70, _⟩ => ⟨S8192x1024, .f32⟩
  | .hbm, ⟨71, _⟩ => ⟨S1024x2048, .f32⟩
  | .hbm, ⟨72, _⟩ => ⟨S8192x2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S8192x2048, .f32⟩
  | .hbm, ⟨88, _⟩ => ⟨S8192x2048, .f32⟩
  | .hbm, ⟨89, _⟩ => ⟨S_, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S2048x1024, .f32⟩
  | .hbm, ⟨94, _⟩ => ⟨S8192x1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Proof.Spec.lean ====
module

public import Idealize.ShloMosaic.Lib.Pointwise

@[expose] public section

set_option maxRecDepth 16384

/-!
# What the layer computes

The soft mixture of experts written with plain sums over natural-number indices, so that the kernel, which builds it block by block, and the reference, which builds it at once, can both be compared with it.
-/

namespace Cert.Moe

open Idealize.ShloMosaic

/-- A vector read at a natural number, zero outside. -/
noncomputable def at1 {n0 : ℕ} (A : (⟨1, ![n0]⟩ : Shape).Idx → EReal) (i : ℕ) : EReal :=
  if h : i < n0 then A (ix1 ⟨i, h⟩) else 0

/-- A matrix read at two natural numbers, zero outside. -/
noncomputable def at2 {n0 n1 : ℕ} (A : (⟨2, ![n0, n1]⟩ : Shape).Idx → EReal) (i j : ℕ) : EReal :=
  if h : i < n0 ∧ j < n1 then A (ix2 ⟨i, h.1⟩ ⟨j, h.2⟩) else 0

/-- An array of three axes read at three natural numbers, zero outside. -/
noncomputable def at3 {n0 n1 n2 : ℕ} (A : (⟨3, ![n0, n1, n2]⟩ : Shape).Idx → EReal) (i j k : ℕ) : EReal :=
  if h : i < n0 ∧ j < n1 ∧ k < n2 then A (ix3 ⟨i, h.1⟩ ⟨j, h.2.1⟩ ⟨k, h.2.2⟩) else 0

/-- A vector at an index is its reading at the index's coordinate. -/
theorem at1_eq {n0 : ℕ} (A : (⟨1, ![n0]⟩ : Shape).Idx → EReal) (p : (⟨1, ![n0]⟩ : Shape).Idx) (i : ℕ) (h0 : (p 0).val = i) :
    A p = at1 A i := by
  subst h0
  rw [at1, dif_pos (show (p 0).val < n0 from (p 0).isLt)]
  congr 1
  funext a
  fin_cases a
  rfl

/-- A matrix at an index is its reading at the index's coordinates. -/
theorem at2_eq {n0 n1 : ℕ} (A : (⟨2, ![n0, n1]⟩ : Shape).Idx → EReal) (p : (⟨2, ![n0, n1]⟩ : Shape).Idx) (i j : ℕ)
    (h0 : (p 0).val = i) (h1 : (p 1).val = j) : A p = at2 A i j := by
  subst h0 h1
  rw [at2, dif_pos ⟨(p 0).isLt, (p 1).isLt⟩]
  congr 1
  funext a
  fin_cases a <;> rfl

/-- An array of three axes at an index is its reading at the index's coordinates. -/
theorem at3_eq {n0 n1 n2 : ℕ} (A : (⟨3, ![n0, n1, n2]⟩ : Shape).Idx → EReal) (p : (⟨3, ![n0, n1, n2]⟩ : Shape).Idx) (i j k : ℕ)
    (h0 : (p 0).val = i) (h1 : (p 1).val = j) (h2 : (p 2).val = k) : A p = at3 A i j k := by
  subst h0 h1 h2
  rw [at3, dif_pos ⟨(p 0).isLt, (p 1).isLt, (p 2).isLt⟩]
  congr 1
  funext a
  fin_cases a <;> rfl

/-- The ten arguments, each read at natural numbers. -/
structure Args where
  x : ℕ → ℕ → EReal
  wr : ℕ → ℕ → EReal
  w1 : ℕ → ℕ → ℕ → EReal
  b1 : ℕ → ℕ → EReal
  w2 : ℕ → ℕ → ℕ → EReal
  b2 : ℕ → ℕ → EReal
  s1 : ℕ → ℕ → EReal
  sb1 : ℕ → EReal
  s2 : ℕ → ℕ → EReal
  sb2 : ℕ → EReal

/-- The smooth gate: `u` times half of one plus a hyperbolic tangent. -/
noncomputable def gelu (u : EReal) : EReal :=
  u * (Ideal.ofBits FTy.f32 1056964608#32 * (1 + Ideal.tanh (Ideal.ofBits FTy.f32 1061962282#32 * (u + Ideal.ofBits FTy.f32 1027024659#32 * (u * (u * u))))))

variable (A : Args)

/-- The router's score of token `r` for expert `e`. -/
noncomputable def logit (r e : ℕ) : EReal := ∑ d : Fin 1024, A.x r d * A.wr e d

/-- The sum of the exponentials of expert `e`'s scores over the first `n` tokens. -/
noncomputable def zsum (n e : ℕ) : EReal := ∑ r ∈ Finset.range n, Ideal.exp (logit A r e)

/-- The sum of the first `n` tokens, weighted by the exponentials of expert `e`'s scores. -/
noncomputable def asum (n e d : ℕ) : EReal := ∑ r ∈ Finset.range n, Ideal.exp (logit A r e) * A.x r d

/-- The hidden entry `j` of expert `e`. -/
noncomputable def hid (e j : ℕ) : EReal :=
  gelu ((∑ d : Fin 1024, asum A 8192 e d * A.w1 e j d) * Ideal.div 1 (zsum A 8192 e) + A.b1 e j)

/-- The output entry `k` of expert `e`, from its first `n` hidden entries. -/
noncomputable def ysum (n e k : ℕ) : EReal := A.b2 e k + ∑ j ∈ Finset.range n, hid A e j * A.w2 e k j

/-- The hidden entry `j` of the shared expert at token `r`. -/
noncomputable def shid (r j : ℕ) : EReal := gelu ((∑ d : Fin 1024, A.x r d * A.s1 j d) + A.sb1 j)

/-- The shared expert's output for token `r`. -/
noncomputable def shared (r k : ℕ) : EReal := (∑ j : Fin 2048, shid A r j * A.s2 k j) + A.sb2 k

/-- The largest score of token `r`. -/
noncomputable def top (r : ℕ) : EReal := Finset.fold max (Ideal.ofBits FTy.f32 4286578688#32) (fun e : Fin 8 => logit A r e) Finset.univ

/-- The weight token `r` gives expert `e`. -/
noncomputable def comb (r e : ℕ) : EReal :=
  Ideal.div (Ideal.exp (logit A r e - top A r)) (∑ e' : Fin 8, Ideal.exp (logit A r e' - top A r))

/-- The layer's output for token `r`. -/
noncomputable def out (r k : ℕ) : EReal := shared A r k + ∑ e : Fin 8, comb A r e * ysum A 2048 e k

/-- Over no token the sum of exponentials is zero. -/
theorem zsum_zero (e : ℕ) : zsum A 0 e = 0 := by simp [zsum]

/-- Over no token the weighted sum is zero. -/
theorem asum_zero (e d : ℕ) : asum A 0 e d = 0 := by simp [asum]

/-- Over no hidden entry an expert's output is its bias. -/
theorem ysum_zero (e k : ℕ) : ysum A 0 e k = A.b2 e k := by simp [ysum]

/-- A block of tokens adds its own exponentials. -/
theorem zsum_add (n b e : ℕ) : zsum A (n + b) e = zsum A n e + ∑ p : Fin b, Ideal.exp (logit A (n + p) e) := by
  rw [zsum, Finset.sum_range_add, Finset.sum_range (n := b)]
  rfl

/-- A block of tokens adds its own weighted sum. -/
theorem asum_add (n b e d : ℕ) : asum A (n + b) e d = asum A n e d + ∑ p : Fin b, Ideal.exp (logit A (n + p) e) * A.x (n + p) d := by
  rw [asum, Finset.sum_range_add, Finset.sum_range (n := b)]
  rfl

/-- A block of hidden entries adds its own part of the output. -/
theorem ysum_add (n b e k : ℕ) : ysum A (n + b) e k = ysum A n e k + ∑ q : Fin b, hid A e (n + q) * A.w2 e k (n + q) := by
  rw [ysum, Finset.sum_range_add, Finset.sum_range (n := b), ← add_assoc]
  rfl

/-- Dividing by one changes nothing. -/
theorem div_one' (x : EReal) : Ideal.div x 1 = x := by
  have h := Ideal.div_coe (y := (1 : ℝ)) one_ne_zero x
  simpa using h

/-- The ten argument arrays read at natural numbers. -/
noncomputable def argsOf (x0 : (⟨2, ![8192, 1024]⟩ : Shape).Idx → EReal) (x1 : (⟨2, ![8, 1024]⟩ : Shape).Idx → EReal)
    (x2 : (⟨3, ![8, 2048, 1024]⟩ : Shape).Idx → EReal) (x3 : (⟨2, ![8, 2048]⟩ : Shape).Idx → EReal)
    (x4 : (⟨3, ![8, 1024, 2048]⟩ : Shape).Idx → EReal) (x5 : (⟨2, ![8, 1024]⟩ : Shape).Idx → EReal)
    (x6 : (⟨2, ![2048, 1024]⟩ : Shape).Idx → EReal) (x7 : (⟨1, ![2048]⟩ : Shape).Idx → EReal)
    (x8 : (⟨2, ![1024, 2048]⟩ : Shape).Idx → EReal) (x9 : (⟨1, ![1024]⟩ : Shape).Idx → EReal) : Args :=
  ⟨at2 x0, at2 x1, at3 x2, at2 x3, at3 x4, at2 x5, at2 x6, at1 x7, at2 x8, at1 x9⟩

/-- The largest score of expert `e` over all tokens. -/
noncomputable def topE (e : ℕ) : EReal := Finset.fold max (Ideal.ofBits FTy.f32 4286578688#32) (fun r : Fin 8192 => logit A r e) Finset.univ

/-- The weight of token `r` in expert `e`'s slot: the softmax over the tokens, with the largest score taken off. -/
noncomputable def disp (r e : ℕ) : EReal :=
  Ideal.div (Ideal.exp (logit A r e - topE A e)) (∑ r' : Fin 8192, Ideal.exp (logit A r' e - topE A e))

/-- Expert `e`'s slot: the tokens averaged with those weights. -/
noncomputable def slot (e d : ℕ) : EReal := ∑ r : Fin 8192, disp A r e * A.x r d

end Cert.Moe
-- ==== Proof.Softmax.lean ====
module

public import proofs.«01_k».proof.Proof.Spec

@[expose] public section

set_option maxRecDepth 65536

/-!
# The softmax over the tokens, with and without the largest score taken off

When the tokens and the router's weights are finite every score is a real number, so taking the largest score off changes no weight, and dividing by the normalizer may be done after the first layer's product.
-/

namespace Cert.Moe

open Idealize.ShloMosaic

/-- The bits of the least float are the least extended real. -/
theorem bot_bits : Ideal.ofBits FTy.f32 4286578688#32 = ⊥ := by
  simp [Ideal.ofBits, Ideal.ieee, -EReal.coe_mul]

/-- A sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- The largest of finitely many real numbers, at least one, is a real number. -/
theorem fold_max_real {n : ℕ} (hn : 0 < n) (f : Fin n → ℝ) :
    ∃ m : ℝ, Finset.fold max (⊥ : EReal) (fun i => (f i : EReal)) Finset.univ = m := by
  have h1 : Finset.fold max (⊥ : EReal) (fun i => (f i : EReal)) Finset.univ < ⊤ :=
    (Finset.fold_max_lt ⊤).mpr ⟨bot_lt_top, fun i _ => EReal.coe_lt_top _⟩
  have h2 : ⊥ < Finset.fold max (⊥ : EReal) (fun i => (f i : EReal)) Finset.univ :=
    (Finset.lt_fold_max ⊥).mpr (.inr ⟨⟨0, hn⟩, Finset.mem_univ _, EReal.bot_lt_coe _⟩)
  exact ⟨_, (EReal.coe_toReal h1.ne h2.ne').symm⟩

/-- Real sums of exponentials. -/
theorem exp_sum {n : ℕ} (l : Fin n → ℝ) : ∑ r, Ideal.exp (l r : EReal) = ((∑ r, Real.exp (l r) : ℝ) : EReal) := by
  rw [coe_sum]
  exact Finset.sum_congr rfl fun r _ => Ideal.exp_coe _

/-- Real sums weighted by exponentials. -/
theorem exp_mul_sum {n : ℕ} (l f : Fin n → ℝ) :
    ∑ r, Ideal.exp (l r : EReal) * (f r : EReal) = ((∑ r, Real.exp (l r) * f r : ℝ) : EReal) := by
  rw [coe_sum]
  exact Finset.sum_congr rfl fun r _ => by rw [Ideal.exp_coe, EReal.coe_mul]

/-- The softmax of real scores with the largest one taken off is the exponential over the sum of the exponentials. -/
theorem soft_real {n : ℕ} (l : Fin n → ℝ) (r : Fin n) :
    Ideal.div (Ideal.exp ((l r : EReal) - Finset.fold max (⊥ : EReal) (fun i => (l i : EReal)) Finset.univ))
        (∑ r', Ideal.exp ((l r' : EReal) - Finset.fold max (⊥ : EReal) (fun i => (l i : EReal)) Finset.univ))
      = ((Real.exp (l r) * (1 / ∑ r', Real.exp (l r')) : ℝ) : EReal) := by
  obtain ⟨M, hM⟩ := fold_max_real (Nat.lt_of_le_of_lt (Nat.zero_le _) r.isLt) l
  rw [hM]
  have hden : ∑ r', Ideal.exp ((l r' : EReal) - (M : EReal)) = (((∑ r', Real.exp (l r')) * (Real.exp M)⁻¹ : ℝ) : EReal) := by
    rw [Finset.sum_mul, coe_sum]
    refine Finset.sum_congr rfl fun r _ => ?_
    rw [← EReal.coe_sub, Ideal.exp_coe, Real.exp_sub, div_eq_mul_inv]
  have hZ : 0 < ∑ r', Real.exp (l r') := Finset.sum_pos (fun r _ => Real.exp_pos _) ⟨r, Finset.mem_univ _⟩
  have hden0 : (∑ r', Real.exp (l r')) * (Real.exp M)⁻¹ ≠ 0 := by positivity
  rw [hden, Ideal.div_coe hden0, ← EReal.coe_sub, Ideal.exp_coe, ← EReal.coe_mul, Real.exp_sub]
  congr 1
  field_simp

/-- A real average by the softmax is the weighted sum over the normalizer. -/
theorem soft_sum {n : ℕ} (l f : Fin n → ℝ) (c : ℝ) :
    ∑ r, ((Real.exp (l r) * c : ℝ) : EReal) * (f r : EReal) = ((∑ r, Real.exp (l r) * f r : ℝ) : EReal) * (c : EReal) := by
  rw [← EReal.coe_mul, Finset.sum_mul, coe_sum]
  refine Finset.sum_congr rfl fun r _ => ?_
  rw [← EReal.coe_mul]
  congr 1
  ring

variable (A : Args)

/-- Finite tokens and weights give real scores. -/
theorem logit_real (hx : ∀ r d, ∃ u : ℝ, A.x r d = u) (hw : ∀ e d, ∃ u : ℝ, A.wr e d = u) :
    ∃ l : ℕ → ℕ → ℝ, ∀ r e, logit A r e = (l r e : EReal) := by
  choose f hf using hx
  choose g hg using hw
  refine ⟨fun r e => ∑ d : Fin 1024, f r d * g e d, fun r e => ?_⟩
  rw [logit, coe_sum]
  exact Finset.sum_congr rfl fun d _ => by rw [hf, hg, EReal.coe_mul]

/-- With real scores the slot's product with the first layer is the product of the weighted sum, divided by the normalizer. -/
theorem slot_mul (hx : ∀ r d, ∃ u : ℝ, A.x r d = u) (hw : ∀ e d, ∃ u : ℝ, A.wr e d = u) (e j : ℕ) :
    ∑ d : Fin 1024, slot A e d * A.w1 e j d = (∑ d : Fin 1024, asum A 8192 e d * A.w1 e j d) * Ideal.div 1 (zsum A 8192 e) := by
  obtain ⟨l, hl⟩ := logit_real A hx hw
  choose f hf using hx
  have hz := exp_sum (fun r : Fin 8192 => l r e)
  have hZ : 0 < ∑ r : Fin 8192, Real.exp (l r e) := Finset.sum_pos (fun r _ => Real.exp_pos _) ⟨⟨0, by norm_num⟩, Finset.mem_univ _⟩
  have hd := soft_real (fun r : Fin 8192 => l r e)
  have hs := fun d : ℕ => soft_sum (fun r : Fin 8192 => l r e) (fun r => f r d) (1 / ∑ r : Fin 8192, Real.exp (l r e))
  have ha := fun d : ℕ => exp_mul_sum (fun r : Fin 8192 => l r e) (fun r => f r d)
  have hslot : ∀ d : ℕ, slot A e d = asum A 8192 e d * ((1 / ∑ r : Fin 8192, Real.exp (l r e) : ℝ) : EReal) := fun d => by
    simp only [slot, disp, topE, asum, Finset.sum_range, bot_bits, hl, hf]
    simp only [hd, ha]
    exact hs d
  have hzs : zsum A 8192 e = ((∑ r : Fin 8192, Real.exp (l r e) : ℝ) : EReal) := by
    simp only [zsum, Finset.sum_range, hl]
    exact hz
  generalize (∑ r : Fin 8192, Real.exp (l r e)) = Z at *
  rw [hzs, Ideal.div_coe hZ.ne', one_mul, sum_mul_coe _ _ _ (by positivity)]
  refine Finset.sum_congr rfl fun d _ => ?_
  rw [hslot, mul_assoc, mul_assoc, mul_comm (A.w1 e j d)]

end Cert.Moe
-- ==== Proof.ReferenceIdeal.Values.lean ====
module

public import proofs.«01_k».proof.Proof.Softmax
public import proofs.«01_k».proof.Proof.Gen.ReferenceIdeal.Run
public import proofs.«01_k».proof.Proof.Gen.ReferenceIdeal.Read

@[expose] public section

set_option maxRecDepth 16384

noncomputable section

/-!
# What the reference computes

Each of its stages read at an index, ending with the layer's output.
-/

namespace Cert.ReferenceIdeal.Hand

open Cert.ReferenceIdeal Cert.ReferenceIdeal.Gen Cert.ReferenceIdeal.Read Cert.Moe
open Idealize.ShloMosaic

variable (x0 : (⟨S8192x1024, .f32⟩ : BufTy).Contents (Elt Ideal)) (x1 : (⟨S8x1024, .f32⟩ : BufTy).Contents (Elt Ideal))
variable (x2 : (⟨S8x2048x1024, .f32⟩ : BufTy).Contents (Elt Ideal)) (x3 : (⟨S8x2048, .f32⟩ : BufTy).Contents (Elt Ideal))
variable (x4 : (⟨S8x1024x2048, .f32⟩ : BufTy).Contents (Elt Ideal)) (x5 : (⟨S8x1024, .f32⟩ : BufTy).Contents (Elt Ideal))
variable (x6 : (⟨S2048x1024, .f32⟩ : BufTy).Contents (Elt Ideal)) (x7 : (⟨S2048, .f32⟩ : BufTy).Contents (Elt Ideal))
variable (x8 : (⟨S1024x2048, .f32⟩ : BufTy).Contents (Elt Ideal)) (x9 : (⟨S1024, .f32⟩ : BufTy).Contents (Elt Ideal))

/-- The scores. -/
theorem v3_eq (j : S8192x8.Idx) : val_main_v3 (F := Ideal) x0 x1 j = logit (argsOf x0 x1 x2 x3 x4 x5 x6 x7 x8 x9) (j 0).val (j 1).val := by
  pointwise [val_main_v3, val_main_v2, val_main_v1, val_main_v0, val_main_cst]
  rw [div_one']
  exact Finset.sum_congr rfl fun d _ => congrArg₂ (· * ·) (at2_eq x0 _ _ _ rfl rfl) (at2_eq x1 _ _ _ rfl rfl)

/-- The greatest of a family and the least float, compared once more with the least float, is unchanged. -/
theorem max_fold {n : ℕ} (b : EReal) (f : Fin n → EReal) : max b (Finset.fold max b f Finset.univ) = Finset.fold max b f Finset.univ :=
  max_eq_right ((Finset.le_fold_max b).mpr (.inl le_rfl))

/-- The dispatch weights: the softmax of the scores over the tokens. -/
theorem v14_eq (j : S8192x8.Idx) : val_main_v14 (F := Ideal) x0 x1 j = disp (argsOf x0 x1 x2 x3 x4 x5 x6 x7 x8 x9) (j 0).val (j 1).val := by
  pointwise [val_main_v14, val_main_v13, val_main_v12, val_main_v11, val_main_v10, val_main_v9, val_main_v8, val_main_v7, val_main_v6, val_main_v5, val_main_v4, val_main_cst_0, val_main_cst_1, val_main_cst_2]
  simp only [max_fold, v3_eq x0 x1 x2 x3 x4 x5 x6 x7 x8 x9]
  rfl

/-- The combine weights: the softmax of the scores over the experts. -/
theorem v25_eq (j : S8192x8.Idx) : val_main_v25 (F := Ideal) x0 x1 j = comb (argsOf x0 x1 x2 x3 x4 x5 x6 x7 x8 x9) (j 0).val (j 1).val := by
  pointwise [val_main_v25, val_main_v24, val_main_v23, val_main_v22, val_main_v21, val_main_v20, val_main_v19, val_main_v18, val_main_v17, val_main_v16, val_main_v15, val_main_cst_3, val_main_cst_4, val_main_cst_5]
  simp only [max_fold, v3_eq x0 x1 x2 x3 x4 x5 x6 x7 x8 x9]
  rfl

/-- The experts' slots. -/
theorem v27_eq (j : S8x1024.Idx) : val_main_v27 (F := Ideal) x0 x1 j = slot (argsOf x0 x1 x2 x3 x4 x5 x6 x7 x8 x9) (j 0).val (j 1).val := by
  pointwise [val_main_v27, val_main_v26]
  exact Finset.sum_congr rfl fun r _ => congrArg₂ (· * ·) (v14_eq x0 x1 x2 x3 x4 x5 x6 x7 x8 x9 _) (at2_eq x0 _ _ _ rfl rfl)

section
variable (hx : ∀ r d, ∃ u : ℝ, at2 x0 r d = u) (hw : ∀ e d, ∃ u : ℝ, at2 x1 e d = u)
include hx hw

/-- The experts' hidden entries. -/
theorem v44_eq (j : S8x1x2048.Idx) : val_main_v44 (F := Ideal) x0 x1 x2 x3 j = hid (argsOf x0 x1 x2 x3 x4 x5 x6 x7 x8 x9) (j 0).val (j 2).val := by
  have h31 : val_main_v31 (F := Ideal) x0 x1 x2 x3 j
      = (∑ d : Fin 1024, asum (argsOf x0 x1 x2 x3 x4 x5 x6 x7 x8 x9) 8192 (j 0).val d * (argsOf x0 x1 x2 x3 x4 x5 x6 x7 x8 x9).w1 (j 0).val (j 2).val d) * Ideal.div 1 (zsum (argsOf x0 x1 x2 x3 x4 x5 x6 x7 x8 x9) 8192 (j 0).val) + (argsOf x0 x1 x2 x3 x4 x5 x6 x7 x8 x9).b1 (j 0).val (j 2).val := by
    rw [← slot_mul (argsOf x0 x1 x2 x3 x4 x5 x6 x7 x8 x9) hx hw]
    pointwise [val_main_v31, val_main_v30, val_main_v29, val_main_v28]
    exact congrArg₂ (· + ·) (Finset.sum_congr rfl fun d _ => congrArg₂ (· * ·) (v27_eq x0 x1 x2 x3 x4 x5 x6 x7 x8 x9 _) (at3_eq x2 _ _ _ _ rfl rfl rfl))
      (at2_eq x3 _ _ _ rfl rfl)
  rw [hid, ← h31]
  pointwise [val_main_v44, val_main_v43, val_main_v42, val_main_v41, val_main_v40, val_main_v39, val_main_v38, val_main_v37, val_main_v36, val_main_v35, val_main_v34, val_main_v33, val_main_v32, val_main_cst_6, val_main_cst_7, val_main_cst_8, val_main_cst_9]
  generalize val_main_v31 x0 x1 x2 x3 j = u
  rw [mul_comm (u * u) u]
  rfl

/-- The experts' outputs. -/
theorem v48_eq (j : S8x1024.Idx) : val_main_v48 (F := Ideal) x0 x1 x2 x3 x4 x5 j = ysum (argsOf x0 x1 x2 x3 x4 x5 x6 x7 x8 x9) 2048 (j 0).val (j 1).val := by
  rw [ysum, Finset.sum_range, add_comm]
  pointwise [val_main_v48, val_main_v47, val_main_v46, val_main_v45]
  exact congrArg₂ (· + ·) (Finset.sum_congr rfl fun d _ => congrArg₂ (· * ·) (v44_eq x0 x1 x2 x3 x4 x5 x6 x7 x8 x9 hx hw _) (at3_eq x4 _ _ _ _ rfl rfl rfl))
    (at2_eq x5 _ _ _ rfl rfl)

/-- The experts' part of the result. -/
theorem v49_eq (j : S8192x1024.Idx) :
    val_main_v49 (F := Ideal) x0 x1 x2 x3 x4 x5 j = ∑ e : Fin 8, comb (argsOf x0 x1 x2 x3 x4 x5 x6 x7 x8 x9) (j 0).val e.val * ysum (argsOf x0 x1 x2 x3 x4 x5 x6 x7 x8 x9) 2048 e.val (j 1).val := by
  pointwise [val_main_v49]
  exact Finset.sum_congr rfl fun e _ => congrArg₂ (· * ·) (v25_eq x0 x1 x2 x3 x4 x5 x6 x7 x8 x9 _) (v48_eq x0 x1 x2 x3 x4 x5 x6 x7 x8 x9 hx hw _)
end

/-- The shared expert's hidden entries. -/
theorem v67_eq (j : S8192x2048.Idx) : val_main_v67 (F := Ideal) x0 x6 x7 j = shid (argsOf x0 x1 x2 x3 x4 x5 x6 x7 x8 x9) (j 0).val (j 1).val := by
  have h54 : val_main_v54 (F := Ideal) x0 x6 x7 j = (∑ d : Fin 1024, (argsOf x0 x1 x2 x3 x4 x5 x6 x7 x8 x9).x (j 0).val d * (argsOf x0 x1 x2 x3 x4 x5 x6 x7 x8 x9).s1 (j 1).val d) + (argsOf x0 x1 x2 x3 x4 x5 x6 x7 x8 x9).sb1 (j 1).val := by
    pointwise [val_main_v54, val_main_v53, val_main_v52, val_main_v51, val_main_v50]
    exact congrArg₂ (· + ·) (Finset.sum_congr rfl fun d _ => congrArg₂ (· * ·) (at2_eq x0 _ _ _ rfl rfl) (at2_eq x6 _ _ _ rfl rfl))
      (at1_eq x7 _ _ rfl)
  rw [shid, ← h54]
  pointwise [val_main_v67, val_main_v66, val_main_v65, val_main_v64, val_main_v63, val_main_v62, val_main_v61, val_main_v60, val_main_v59, val_main_v58, val_main_v57, val_main_v56, val_main_v55, val_main_cst_10, val_main_cst_11, val_main_cst_12, val_main_cst_13]
  generalize val_main_v54 x0 x6 x7 j = u
  rw [mul_comm (u * u) u]
  rfl

/-- The shared expert's part of the result. -/
theorem v72_eq (j : S8192x1024.Idx) : val_main_v72 (F := Ideal) x0 x6 x7 x8 x9 j = shared (argsOf x0 x1 x2 x3 x4 x5 x6 x7 x8 x9) (j 0).val (j 1).val := by
  pointwise [val_main_v72, val_main_v71, val_main_v70, val_main_v69, val_main_v68]
  exact congrArg₂ (· + ·) (Finset.sum_congr rfl fun d _ => congrArg₂ (· * ·) (v67_eq x0 x1 x2 x3 x4 x5 x6 x7 x8 x9 _) (at2_eq x8 _ _ _ rfl rfl))
    (at1_eq x9 _ _ rfl)

/-- The reference's result is the layer's output, when the tokens and the router's weights are finite. -/
theorem v73_eq (hx : ∀ r d, ∃ u : ℝ, at2 x0 r d = u) (hw : ∀ e d, ∃ u : ℝ, at2 x1 e d = u) (j : S8192x1024.Idx) :
    val_main_v73 (F := Ideal) x0 x1 x2 x3 x4 x5 x6 x7 x8 x9 j = out (argsOf x0 x1 x2 x3 x4 x5 x6 x7 x8 x9) (j 0).val (j 1).val := by
  rw [out, add_comm, ← v72_eq x0 x1 x2 x3 x4 x5 x6 x7 x8 x9, ← v49_eq x0 x1 x2 x3 x4 x5 x6 x7 x8 x9 hx hw]
  rfl

end Cert.ReferenceIdeal.Hand

end
-- ==== Proof.KernelIdeal.Step.lean ====
/-
  What one grid point does to the buffers: the six scratch buffers' contents as one record, the contents after a
  point as functions of the contents before it and of the point's input blocks, and the statement `BodyRun` of a
  run of the body from one record to the next.
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (put window)

variable {F : FTy → Type} [FloatOps F]

local notation "𝕄" => MT nD τ sig Unit (Elt F) ℕ (UR sig nD τ) ℕ

/-- A load of a whole buffer reads what the view reads. -/
theorem readAt_all {κ : Kind} {sp : Space} {sh : Shape} {e : EltTy} (v : View sig κ sp sh e) (f : v.ty.Contents (Elt F)) (off : Fin sh.rank → ℕ)
    (inb : ∀ a, off a + sh.size a ≤ sh.size a) :
    v.readAt (Elt F) (Rect.unit off (no_index sh.size) inb).toLoadRect f = v.read (Elt F) f :=
  View.readAt_full v f inb

/-- A load of a whole buffer after a store of the whole buffer reads what was stored. -/
theorem cov_all {κ : Kind} {sp : Space} {sh : Shape} {e : EltTy} (v : View sig κ sp sh e) (off off' : Fin sh.rank → ℕ)
    (inb : ∀ a, off a + sh.size a ≤ sh.size a) (inb' : ∀ a, off' a + sh.size a ≤ sh.size a) (w : sh.Idx → Elt F e) (L : List (View.Piece (Elt F) sh e)) :
    v.readCov ((⟨Rect.unit off (no_index sh.size) inb, w⟩ : View.Piece (Elt F) sh e) :: L) (Rect.unit off' (no_index sh.size) inb').toLoadRect = w :=
  View.readCov_full v inb' inb w L

/-- A store of a whole buffer leaves its payload. -/
theorem read_cons_all {κ : Kind} {sp : Space} {sh : Shape} {e : EltTy} (v : View sig κ sp sh e) (f : v.ty.Contents (Elt F)) (off : Fin sh.rank → ℕ)
    (inb : ∀ a, off a + sh.size a ≤ sh.size a) (w : sh.Idx → Elt F e) (L : List (View.Piece (Elt F) sh e)) :
    v.read (Elt F) (v.writes (Elt F) f ((⟨Rect.unit off (no_index sh.size) inb, w⟩ : View.Piece (Elt F) sh e) :: L)) = w :=
  View.read_writes_full v f inb w L

/-- A put over the whole shape leaves the payload. -/
theorem put_all {α : Type} {sh : Shape} (x : sh.Idx → α) (off : Fin sh.rank → ℕ) (inb : ∀ a, off a + sh.size a ≤ sh.size a) (w : sh.Idx → α) :
    put x off sh.size w = w := by
  funext y
  have h : ∀ a, off a ≤ (y a).val ∧ (y a).val < off a + sh.size a := fun a => by
    have := inb a; have := (y a).isLt; omega
  unfold put
  rw [dif_pos h]
  exact congrArg w (funext fun a => Fin.ext (by
    show (y a).val - off a = (y a).val
    have := inb a; omega))

/-- A load at a rectangle reads the window of what the view reads. -/
theorem readAt_window {κ : Kind} {sp : Space} {sh : Shape} {e : EltTy} (v : View sig κ sp sh e) (f : v.ty.Contents (Elt F)) (off size : Fin sh.rank → ℕ)
    (inb : ∀ a, off a + size a ≤ sh.size a) :
    v.readAt (Elt F) (Rect.unit off size inb).toLoadRect f = window (v.read (Elt F) f) off size inb :=
  View.readAt_unit v f inb rfl inb

/-- A store at a rectangle puts its payload over what the earlier stores left. -/
theorem read_cons_put {κ : Kind} {sp : Space} {sh : Shape} {e : EltTy} (v : View sig κ sp sh e) (f : v.ty.Contents (Elt F)) (off size : Fin sh.rank → ℕ)
    (inb : ∀ a, off a + size a ≤ sh.size a) (w : (Rect.unit off size inb).shape.Idx → Elt F e) (L : List (View.Piece (Elt F) sh e)) :
    v.read (Elt F) (v.writes (Elt F) f (⟨Rect.unit off size inb, w⟩ :: L)) = put (v.read (Elt F) (v.writes (Elt F) f L)) off size w :=
  View.read_writes_cons_put v f inb w L rfl

/-- A load of one of the eight rows after a store to another row reads what was there before the store. -/
theorem cov_other_row {κ : Kind} {sp : Space} (v : View sig κ sp S8x1024 .f32) (e e' : ℕ)
    (inb : ∀ a, (![e, 0] : Fin 2 → ℕ) a + S1x1024.size a ≤ S8x1024.size a) (inb' : ∀ a, (![e', 0] : Fin 2 → ℕ) a + S1x1024.size a ≤ S8x1024.size a)
    (w : (Rect.unit (s := S8x1024) ![e, 0] S1x1024.size inb).shape.Idx → Elt F .f32) (L : List (View.Piece (Elt F) S8x1024 .f32)) (h : e < e') :
    v.readCov (⟨Rect.unit (s := S8x1024) ![e, 0] (no_index S1x1024.size) inb, w⟩ :: L) (Rect.unit (s := S8x1024) ![e', 0] (no_index S1x1024.size) inb').toLoadRect
      = v.readCov L (Rect.unit (s := S8x1024) ![e', 0] S1x1024.size inb').toLoadRect := by
  unfold View.readCov
  rw [readAt_window, readAt_window, read_cons_put]
  exact VecWindow.window_put_of_disjoint _ _ _ _ _ _ _ 0 (.inr h)

/-- A load of one of the eight rows after a store of all eight reads that row of what was stored. -/
theorem cov_whole_row {κ : Kind} {sp : Space} (v : View sig κ sp S8x1024 .f32) (e' : ℕ) (off : Fin 2 → ℕ)
    (inb : ∀ a, off a + S8x1024.size a ≤ S8x1024.size a) (inb' : ∀ a, (![e', 0] : Fin 2 → ℕ) a + S1x1024.size a ≤ S8x1024.size a)
    (w : (Rect.unit (s := S8x1024) off S8x1024.size inb).shape.Idx → Elt F .f32) (L : List (View.Piece (Elt F) S8x1024 .f32)) :
    v.readCov (⟨Rect.unit (s := S8x1024) off (no_index S8x1024.size) inb, w⟩ :: L) (Rect.unit (s := S8x1024) ![e', 0] (no_index S1x1024.size) inb').toLoadRect
      = window (s := S8x1024) w ![e', 0] S1x1024.size inb' := by
  unfold View.readCov
  rw [readAt_window, View.read_writes_full]

/-- The scratch buffers' contents: the router's logits, the sums of their exponentials, the weighted sums of the
    tokens, the hidden rows, the experts' output rows, the shared expert's output. -/
@[ext] structure St (F : FTy → Type) where
  lg : Vec F S8192x8 .f32
  z : Vec F S1x8 .f32
  a : Vec F S8x1024 .f32
  h : Vec F S8x2048 .f32
  y : Vec F S8x1024 .f32
  sh : Vec F S8192x1024 .bf16

/-- The blocks of the ten inputs at a point. -/
structure Ins (F : FTy → Type) where
  x : Vec F S256x1024 .f32
  wr : Vec F S8x1024 .f32
  w1 : Vec F S8x128x1024 .f32
  b1 : Vec F S8x2048 .f32
  w2 : Vec F S8x1024x128 .f32
  b2 : Vec F S8x1024 .f32
  s1 : Vec F S2048x1024 .f32
  sb1 : Vec F S1x2048 .f32
  s2 : Vec F S1024x2048 .f32
  sb2 : Vec F S1x1024 .f32

/-- One token block of the first pass: its logits stored, the exponentials and the weighted tokens added. -/
def stepTok (i : grid0.Coords) (I : Ins F) (s : St F) : St F :=
  { s with
    lg := put s.lg (k0_off1 i) S256x8.size (k0_pay4 I.x I.wr)
    z := k0_pay6 I.x I.wr s.z
    a := k0_pay7 I.x I.wr s.a }

/-- The first pass's sums set to zero. -/
def stepZero (s : St F) : St F := { s with z := k0_pay1, a := k0_pay2 }

/-- One token block of the shared expert. -/
def stepShared (i : grid0.Coords) (I : Ins F) (s : St F) : St F :=
  { s with sh := put s.sh (k0_off2 i) S256x1024.size (k0_pay33 I.x I.s1 I.sb1 I.s2 I.sb2) }

/-- One chunk of 128 hidden columns, the eight experts' rows one after another. -/
def stepHidden (i : grid0.Coords) (hc : k0_cond3 i = 1#1 ∧ k0_cond4 i = 1#1) (I : Ins F) (s : St F) : St F :=
  let zi := k0_pay34 s.z
  let ar (e : ℕ) (h : ∀ a, (![e, 0] : Fin 2 → ℕ) a + S1x1024.size a ≤ S8x1024.size a) : Vec F S1x1024 .f32 := window s.a ![e, 0] S1x1024.size h
  let wr (e : ℕ) (h : ∀ a, (![e, 0, 0] : Fin 3 → ℕ) a + S1x128x1024.size a ≤ S8x128x1024.size a) : Vec F S1x128x1024 .f32 := window I.w1 ![e, 0, 0] S1x128x1024.size h
  let br (off : Fin 2 → ℕ) (h : ∀ a, off a + S1x128.size a ≤ S8x2048.size a) : Vec F S1x128 .f32 := window I.b1 off S1x128.size h
  { s with
    h :=
      put (put (put (put (put (put (put (put s.h
        (k0_off3 i) S1x128.size (k0_pay12 zi (ar 0 inb_S8x1024_S1x1024_0_0) (wr 0 inb_S8x128x1024_S1x128x1024_0_0_0) (br (k0_off3 i) (k0_off3_inb i hc.1 hc.2))))
        (k0_off4 i) S1x128.size (k0_pay14 (k0_pay13 zi (ar 1 inb_S8x1024_S1x1024_1_0) (wr 1 inb_S8x128x1024_S1x128x1024_1_0_0)) (br (k0_off4 i) (k0_off4_inb i hc.1 hc.2))))
        (k0_off5 i) S1x128.size (k0_pay17
          (k0_pay15 zi (ar 2 inb_S8x1024_S1x1024_2_0) (wr 2 inb_S8x128x1024_S1x128x1024_2_0_0) (br (k0_off5 i) (k0_off5_inb i hc.1 hc.2)))
          (k0_pay16 zi (ar 2 inb_S8x1024_S1x1024_2_0) (wr 2 inb_S8x128x1024_S1x128x1024_2_0_0) (br (k0_off5 i) (k0_off5_inb i hc.1 hc.2)))))
        (k0_off6 i) S1x128.size (k0_pay18 zi (ar 3 inb_S8x1024_S1x1024_3_0) (wr 3 inb_S8x128x1024_S1x128x1024_3_0_0) (br (k0_off6 i) (k0_off6_inb i hc.1 hc.2))))
        (k0_off7 i) S1x128.size (k0_pay19 zi (ar 4 inb_S8x1024_S1x1024_4_0) (wr 4 inb_S8x128x1024_S1x128x1024_4_0_0) (br (k0_off7 i) (k0_off7_inb i hc.1 hc.2))))
        (k0_off8 i) S1x128.size (k0_pay22
          (k0_pay20 zi (ar 5 inb_S8x1024_S1x1024_5_0) (wr 5 inb_S8x128x1024_S1x128x1024_5_0_0) (br (k0_off8 i) (k0_off8_inb i hc.1 hc.2)))
          (k0_pay21 zi (ar 5 inb_S8x1024_S1x1024_5_0) (wr 5 inb_S8x128x1024_S1x128x1024_5_0_0) (br (k0_off8 i) (k0_off8_inb i hc.1 hc.2)))))
        (k0_off9 i) S1x128.size (k0_pay8 (k0_pay23 zi (ar 6 inb_S8x1024_S1x1024_6_0) (wr 6 inb_S8x128x1024_S1x128x1024_6_0_0) (br (k0_off9 i) (k0_off9_inb i hc.1 hc.2)))))
        (k0_off10 i) S1x128.size (k0_pay9 zi (ar 7 inb_S8x1024_S1x1024_7_0) (wr 7 inb_S8x128x1024_S1x128x1024_7_0_0) (br (k0_off10 i) (k0_off10_inb i hc.1 hc.2))) }

/-- The experts' output rows set to their biases. -/
def stepBias (I : Ins F) (s : St F) : St F := { s with y := k0_pay10 I.b2 }

/-- One chunk of 128 hidden columns of the second layer, added to the eight experts' output rows. -/
def stepOut (i : grid0.Coords) (hc : k0_cond3 i = 1#1 ∧ k0_cond6 i = 1#1) (I : Ins F) (s : St F) : St F :=
  let yr (e : ℕ) (h : ∀ a, (![e, 0] : Fin 2 → ℕ) a + S1x1024.size a ≤ S8x1024.size a) : Vec F S1x1024 .f32 := window s.y ![e, 0] S1x1024.size h
  let wr (e : ℕ) (h : ∀ a, (![e, 0, 0] : Fin 3 → ℕ) a + S1x1024x128.size a ≤ S8x1024x128.size a) : Vec F S1x1024x128 .f32 := window I.w2 ![e, 0, 0] S1x1024x128.size h
  let hr (off : Fin 2 → ℕ) (h : ∀ a, off a + S1x128.size a ≤ S8x2048.size a) : Vec F S1x128 .f32 := window s.h off S1x128.size h
  { s with
    y :=
      put (put (put (put (put (put (put (put s.y
        ![0, 0] S1x1024.size (k0_pay24 (yr 0 inb_S8x1024_S1x1024_0_0) (hr (k0_off11 i) (k0_off11_inb i hc.1 hc.2)) (wr 0 inb_S8x1024x128_S1x1024x128_0_0_0)))
        ![1, 0] S1x1024.size (k0_pay25 (yr 1 inb_S8x1024_S1x1024_1_0) (hr (k0_off12 i) (k0_off12_inb i hc.1 hc.2)) (wr 1 inb_S8x1024x128_S1x1024x128_1_0_0)))
        ![2, 0] S1x1024.size (k0_pay27 (yr 2 inb_S8x1024_S1x1024_2_0) (hr (k0_off13 i) (k0_off13_inb i hc.1 hc.2)) (k0_pay26 (wr 2 inb_S8x1024x128_S1x1024x128_2_0_0)) (constant S1x1024 .f32 0x00000000#32)))
        ![3, 0] S1x1024.size (k0_pay28 (yr 3 inb_S8x1024_S1x1024_3_0) (hr (k0_off14 i) (k0_off14_inb i hc.1 hc.2)) (wr 3 inb_S8x1024x128_S1x1024x128_3_0_0)))
        ![4, 0] S1x1024.size (k0_pay29 (yr 4 inb_S8x1024_S1x1024_4_0) (hr (k0_off15 i) (k0_off15_inb i hc.1 hc.2)) (wr 4 inb_S8x1024x128_S1x1024x128_4_0_0)))
        ![5, 0] S1x1024.size (k0_pay30 (yr 5 inb_S8x1024_S1x1024_5_0) (hr (k0_off16 i) (k0_off16_inb i hc.1 hc.2)) (wr 5 inb_S8x1024x128_S1x1024x128_5_0_0)))
        ![6, 0] S1x1024.size (k0_pay31 (yr 6 inb_S8x1024_S1x1024_6_0) (hr (k0_off17 i) (k0_off17_inb i hc.1 hc.2)) (wr 6 inb_S8x1024x128_S1x1024x128_6_0_0)))
        ![7, 0] S1x1024.size (k0_pay32 (yr 7 inb_S8x1024_S1x1024_7_0) (hr (k0_off18 i) (k0_off18_inb i hc.1 hc.2)) (wr 7 inb_S8x1024x128_S1x1024x128_7_0_0)) }

/-- The output block of a token block: the router's weights of the experts' rows, and the shared expert's rows. -/
def outBlk (i : grid0.Coords) (hc : k0_cond7 i = 1#1) (s : St F) : Vec F S256x1024 .f32 :=
  k0_pay11 (window s.lg (k0_off19 i) S256x8.size (k0_off19_inb i hc)) (window s.sh (k0_off20 i) S256x1024.size (k0_off20_inb i hc)) s.y

/-- The seventeen buffers a run of the body is given: the inputs' blocks, the output's buffer, the six scratch buffers. -/
def held (c : Dev nD) (arg2 : Memref sig .tc .vmem S256x1024 .f32) (arg3 : Memref sig .tc .vmem S8x1024 .f32) (arg4 : Memref sig .tc .vmem S8x128x1024 .f32) (arg5 : Memref sig .tc .vmem S8x2048 .f32) (arg6 : Memref sig .tc .vmem S8x1024x128 .f32) (arg7 : Memref sig .tc .vmem S8x1024 .f32) (arg8 : Memref sig .tc .vmem S2048x1024 .f32) (arg9 : Memref sig .tc .vmem S1x2048 .f32) (arg10 : Memref sig .tc .vmem S1024x2048 .f32) (arg11 : Memref sig .tc .vmem S1x1024 .f32) (arg12 : Memref sig .tc .vmem S256x1024 .f32) (arg13 : Memref sig .tc .vmem S8192x8 .f32) (arg14 : Memref sig .tc .vmem S1x8 .f32) (arg15 : Memref sig .tc .vmem S8x1024 .f32) (arg16 : Memref sig .tc .vmem S8x2048 .f32) (arg17 : Memref sig .tc .vmem S8x1024 .f32) (arg18 : Memref sig .tc .vmem S8192x1024 .bf16)
    (I : Ins F) (o : Vec F S256x1024 .f32) (s : St F) : sProp 𝕄 :=
  iprop(owns (c : Thread nD τ) arg2 fullShare I.x ∗ owns (c : Thread nD τ) arg3 fullShare I.wr ∗ owns (c : Thread nD τ) arg4 fullShare I.w1 ∗ owns (c : Thread nD τ) arg5 fullShare I.b1 ∗ owns (c : Thread nD τ) arg6 fullShare I.w2 ∗ owns (c : Thread nD τ) arg7 fullShare I.b2 ∗ owns (c : Thread nD τ) arg8 fullShare I.s1 ∗ owns (c : Thread nD τ) arg9 fullShare I.sb1 ∗ owns (c : Thread nD τ) arg10 fullShare I.s2 ∗ owns (c : Thread nD τ) arg11 fullShare I.sb2
    ∗ owns (c : Thread nD τ) arg12 fullShare o
    ∗ owns (c : Thread nD τ) arg13 fullShare s.lg ∗ owns (c : Thread nD τ) arg14 fullShare s.z ∗ owns (c : Thread nD τ) arg15 fullShare s.a ∗ owns (c : Thread nD τ) arg16 fullShare s.h ∗ owns (c : Thread nD τ) arg17 fullShare s.y ∗ owns (c : Thread nD τ) arg18 fullShare s.sh)

/-- A run of the body at coordinates `i`, on any whole buffers: from input blocks `I`, output buffer `o` and scratch
    contents `s` it ends with the inputs' blocks as they were, the output buffer at `o'` and the scratch at `s'`. -/
def BodyRun (c : Dev nD) (i : grid0.Coords) (I : Ins F) (o : Vec F S256x1024 .f32) (s : St F) (o' : Vec F S256x1024 .f32) (s' : St F) : Prop :=
  ∀ (arg2 : Memref sig .tc .vmem S256x1024 .f32) (harg2 : arg2.IsWhole) (arg3 : Memref sig .tc .vmem S8x1024 .f32) (harg3 : arg3.IsWhole) (arg4 : Memref sig .tc .vmem S8x128x1024 .f32) (harg4 : arg4.IsWhole) (arg5 : Memref sig .tc .vmem S8x2048 .f32) (harg5 : arg5.IsWhole) (arg6 : Memref sig .tc .vmem S8x1024x128 .f32) (harg6 : arg6.IsWhole) (arg7 : Memref sig .tc .vmem S8x1024 .f32) (harg7 : arg7.IsWhole) (arg8 : Memref sig .tc .vmem S2048x1024 .f32) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S8192x8 .f32) (harg13 : arg13.IsWhole) (arg14 : Memref sig .tc .vmem S1x8 .f32) (harg14 : arg14.IsWhole) (arg15 : Memref sig .tc .vmem S8x1024 .f32) (harg15 : arg15.IsWhole) (arg16 : Memref sig .tc .vmem S8x2048 .f32) (harg16 : arg16.IsWhole) (arg17 : Memref sig .tc .vmem S8x1024 .f32) (harg17 : arg17.IsWhole) (arg18 : Memref sig .tc .vmem S8192x1024 .bf16) (harg18 : arg18.IsWhole)
    (E : Set ℕ) (K : PUnit → sProp 𝕄),
    iprop(held c arg2 arg3 arg4 arg5 arg6 arg7 arg8 arg9 arg10 arg11 arg12 arg13 arg14 arg15 arg16 arg17 arg18 I o s ∗ (held c arg2 arg3 arg4 arg5 arg6 arg7 arg8 arg9 arg10 arg11 arg12 arg13 arg14 arg15 arg16 arg17 arg18 I o' s' -∗ K ⟨⟩))
      ⊢ wp frame (wpE (defs₀ (F := F)) Variants.none c none) E (cc0__moe_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K

end Cert.KernelIdeal.Hand

end
-- ==== Proof.KernelIdeal.RunTok.lean ====
/-
  The body's run at the points of the first pass.
-/
module

public import proofs.«01_k».proof.Proof.KernelIdeal.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (put window)

variable {F : FTy → Type} [FloatOps F]

set_option maxHeartbeats 16000000 in
/-- A point of the first pass other than its first. -/
theorem runTok (c : Dev nD) (i : grid0.Coords) (I : Ins F) (o : Vec F S256x1024 .f32) (s : St F)
    (h1 : k0_cond1 i = 1#1) (h2 : ¬(Scalar.cmpi .ne (Scalar.extui (Scalar.cmpi .eq (BitVec.ofNat 32 (i 1).val) 0#32)) 0#32 = 1#1)) (h3 : ¬k0_cond3 i = 1#1) (h7 : ¬k0_cond7 i = 1#1) :
    BodyRun c i I o s o (stepTok i I s) := by
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E K
  simp only [cc0__moe_kernel_eq_skeleton]; unfold cc0__moe_kernel_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17; obtain rfl := harg18.eq_unread hf18
  sl_exec (disch := first | sl_exact h1 | sl_exact h2 | sl_exact h3 | sl_exact h7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro; sl_unfold_run_names; sl_unfold_run_names; rw [read_cons_put, View.writes_nil]; simp (config := {proj := false}) only [readAt_all, Memref.IsWhole.read_unread]; rfl
  isplitl [H14]
  · iexists _; isplitr; swap; · iexact H14
    ipureintro; sl_unfold_run_names; sl_unfold_run_names; rw [View.read_writes_full]; simp (config := {proj := false}) only [readAt_all, cov_all, Memref.IsWhole.read_unread]; rfl
  isplitl [H15]
  · iexists _; isplitr; swap; · iexact H15
    ipureintro; sl_unfold_run_names; sl_unfold_run_names; rw [View.read_writes_full]; simp (config := {proj := false}) only [readAt_all, cov_all, Memref.IsWhole.read_unread]; rfl
  isplitl [H16]
  · iexists _; isplitr; · ipureintro; exact harg16.read_unread _
    iexact H16
  isplitl [H17]
  · iexists _; isplitr; · ipureintro; exact harg17.read_unread _
    iexact H17
  iexists _; isplitr; · ipureintro; exact harg18.read_unread _
  iexact H18

end Cert.KernelIdeal.Hand

end
-- ==== Proof.KernelIdeal.RunFirst.lean ====
/-
  The body's run at the first point of the grid.
-/
module

public import proofs.«01_k».proof.Proof.KernelIdeal.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (put window)

variable {F : FTy → Type} [FloatOps F]

set_option maxHeartbeats 16000000 in
/-- The first point: the sums start from zero. -/
theorem runFirst (c : Dev nD) (i : grid0.Coords) (I : Ins F) (o : Vec F S256x1024 .f32) (s : St F)
    (h1 : k0_cond1 i = 1#1) (h2 : (Scalar.cmpi .ne (Scalar.extui (Scalar.cmpi .eq (BitVec.ofNat 32 (i 1).val) 0#32)) 0#32 = 1#1)) (h3 : ¬k0_cond3 i = 1#1) (h7 : ¬k0_cond7 i = 1#1) :
    BodyRun c i I o s o (stepTok i I (stepZero s)) := by
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E K
  simp only [cc0__moe_kernel_eq_skeleton]; unfold cc0__moe_kernel_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17; obtain rfl := harg18.eq_unread hf18
  sl_exec (disch := first | sl_exact h1 | sl_exact h2 | sl_exact h3 | sl_exact h7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro; sl_unfold_run_names; sl_unfold_run_names; rw [read_cons_put, View.writes_nil]; simp (config := {proj := false}) only [readAt_all, Memref.IsWhole.read_unread]; rfl
  isplitl [H14]
  · iexists _; isplitr; swap; · iexact H14
    ipureintro; sl_unfold_run_names; sl_unfold_run_names; rw [View.read_writes_full]; simp (config := {proj := false}) only [readAt_all, cov_all, Memref.IsWhole.read_unread]; rfl
  isplitl [H15]
  · iexists _; isplitr; swap; · iexact H15
    ipureintro; sl_unfold_run_names; sl_unfold_run_names; rw [View.read_writes_full]; simp (config := {proj := false}) only [readAt_all, cov_all, Memref.IsWhole.read_unread]; rfl
  isplitl [H16]
  · iexists _; isplitr; · ipureintro; exact harg16.read_unread _
    iexact H16
  isplitl [H17]
  · iexists _; isplitr; · ipureintro; exact harg17.read_unread _
    iexact H17
  iexists _; isplitr; · ipureintro; exact harg18.read_unread _
  iexact H18

end Cert.KernelIdeal.Hand

end
-- ==== Proof.KernelIdeal.RunHidden.lean ====
/-
  The body's run at the points that fill the hidden rows.
-/
module

public import proofs.«01_k».proof.Proof.KernelIdeal.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (put window)

variable {F : FTy → Type} [FloatOps F]

set_option maxHeartbeats 16000000 in
/-- A point of the second pass that fills one chunk of hidden columns. -/
theorem runHidden (c : Dev nD) (i : grid0.Coords) (I : Ins F) (o : Vec F S256x1024 .f32) (s : St F)
    (h1 : ¬k0_cond1 i = 1#1) (h3 : k0_cond3 i = 1#1) (h4 : k0_cond4 i = 1#1) (h5 : ¬(Scalar.cmpi .ne (Scalar.extui (Scalar.cmpi .eq (BitVec.ofNat 32 (i 1).val) 16#32)) 0#32 = 1#1)) (h6 : ¬k0_cond6 i = 1#1) (h7 : ¬k0_cond7 i = 1#1) :
    BodyRun c i I o s o (stepHidden i ⟨h3, h4⟩ I (stepShared i I s)) := by
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E K
  simp only [cc0__moe_kernel_eq_skeleton]; unfold cc0__moe_kernel_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17; obtain rfl := harg18.eq_unread hf18
  sl_exec (disch := first | sl_exact h1 | sl_exact h3 | sl_exact h4 | sl_exact h5 | sl_exact h6 | sl_exact h7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; swap; · iexact H16
    ipureintro; sl_unfold_run_names; sl_unfold_run_names; rw [View.readAt_full arg14.view]; simp (config := {proj := false}) only [read_cons_put, View.writes_nil, readAt_window, Memref.IsWhole.read_unread]; rfl
  isplitl [H17]
  · iexists _; isplitr; · ipureintro; exact harg17.read_unread _
    iexact H17
  iexists _; isplitr; swap; · iexact H18
  ipureintro; sl_unfold_run_names; sl_unfold_run_names; rw [read_cons_put, View.writes_nil]; simp (config := {proj := false}) only [readAt_all, Memref.IsWhole.read_unread]; rfl

end Cert.KernelIdeal.Hand

end
-- ==== Proof.KernelIdeal.RunBias.lean ====
/-
  The body's run at the point that starts the second layer.
-/
module

public import proofs.«01_k».proof.Proof.KernelIdeal.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (put window)

variable {F : FTy → Type} [FloatOps F]

set_option maxHeartbeats 16000000 in
/-- The point of the second pass that sets the experts' rows to their biases and adds the first chunk. -/
theorem runBias (c : Dev nD) (i : grid0.Coords) (I : Ins F) (o : Vec F S256x1024 .f32) (s : St F)
    (h1 : ¬k0_cond1 i = 1#1) (h3 : k0_cond3 i = 1#1) (h4 : ¬k0_cond4 i = 1#1) (h5 : (Scalar.cmpi .ne (Scalar.extui (Scalar.cmpi .eq (BitVec.ofNat 32 (i 1).val) 16#32)) 0#32 = 1#1)) (h6 : k0_cond6 i = 1#1) (h7 : ¬k0_cond7 i = 1#1) :
    BodyRun c i I o s o (stepOut i ⟨h3, h6⟩ I (stepBias I (stepShared i I s))) := by
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E K
  simp only [cc0__moe_kernel_eq_skeleton]; unfold cc0__moe_kernel_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17; obtain rfl := harg18.eq_unread hf18
  sl_exec (disch := first | sl_exact h1 | sl_exact h3 | sl_exact h4 | sl_exact h5 | sl_exact h6 | sl_exact h7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro; sl_unfold_run_names; sl_unfold_run_names; simp (config := {proj := false, decide := true}) only [cov_other_row, cov_whole_row]; rw [View.readAt_full arg7.view]; simp (config := {proj := false}) only [read_cons_put]; rw [put_all _ _ inb_S8x1024_S8x1024_0_0]; simp (config := {proj := false}) only [readAt_window, Memref.IsWhole.read_unread]; rfl
  iexists _; isplitr; swap; · iexact H18
  ipureintro; sl_unfold_run_names; sl_unfold_run_names; rw [read_cons_put, View.writes_nil]; simp (config := {proj := false}) only [readAt_all, Memref.IsWhole.read_unread]; rfl

end Cert.KernelIdeal.Hand

end
-- ==== Proof.KernelIdeal.RunOut.lean ====
/-
  The body's run at the points that add up the second layer.
-/
module

public import proofs.«01_k».proof.Proof.KernelIdeal.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (put window)

variable {F : FTy → Type} [FloatOps F]

set_option maxHeartbeats 16000000 in
/-- A point of the second pass that adds one chunk of the second layer. -/
theorem runOut (c : Dev nD) (i : grid0.Coords) (I : Ins F) (o : Vec F S256x1024 .f32) (s : St F)
    (h1 : ¬k0_cond1 i = 1#1) (h3 : k0_cond3 i = 1#1) (h4 : ¬k0_cond4 i = 1#1) (h5 : ¬(Scalar.cmpi .ne (Scalar.extui (Scalar.cmpi .eq (BitVec.ofNat 32 (i 1).val) 16#32)) 0#32 = 1#1)) (h6 : k0_cond6 i = 1#1) (h7 : ¬k0_cond7 i = 1#1) :
    BodyRun c i I o s o (stepOut i ⟨h3, h6⟩ I (stepShared i I s)) := by
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E K
  simp only [cc0__moe_kernel_eq_skeleton]; unfold cc0__moe_kernel_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17; obtain rfl := harg18.eq_unread hf18
  sl_exec (disch := first | sl_exact h1 | sl_exact h3 | sl_exact h4 | sl_exact h5 | sl_exact h6 | sl_exact h7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro; sl_unfold_run_names; sl_unfold_run_names; simp (config := {proj := false}) only [read_cons_put, View.writes_nil, readAt_window, Memref.IsWhole.read_unread]; rfl
  iexists _; isplitr; swap; · iexact H18
  ipureintro; sl_unfold_run_names; sl_unfold_run_names; rw [read_cons_put, View.writes_nil]; simp (config := {proj := false}) only [readAt_all, Memref.IsWhole.read_unread]; rfl

end Cert.KernelIdeal.Hand

end
-- ==== Proof.KernelIdeal.RunLast.lean ====
/-
  The body's run at the points of the last pass.
-/
module

public import proofs.«01_k».proof.Proof.KernelIdeal.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (put window)

variable {F : FTy → Type} [FloatOps F]

set_option maxHeartbeats 16000000 in
/-- A point of the last pass: one block of the output is stored. -/
theorem runLast (c : Dev nD) (i : grid0.Coords) (I : Ins F) (o : Vec F S256x1024 .f32) (s : St F)
    (h1 : ¬k0_cond1 i = 1#1) (h3 : ¬k0_cond3 i = 1#1) (h7 : k0_cond7 i = 1#1) :
    BodyRun c i I o s (outBlk i h7 s) s := by
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E K
  simp only [cc0__moe_kernel_eq_skeleton]; unfold cc0__moe_kernel_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17; obtain rfl := harg18.eq_unread hf18
  sl_exec (disch := first | sl_exact h1 | sl_exact h3 | sl_exact h7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro; sl_unfold_run_names; sl_unfold_run_names; rw [View.read_writes_full, View.readAt_full arg17.view]; simp (config := {proj := false}) only [read_cons_put, View.writes_nil, readAt_window, Memref.IsWhole.read_unread]; rfl
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  iexists _; isplitr; · ipureintro; exact harg18.read_unread _
  iexact H18

end Cert.KernelIdeal.Hand

end
-- ==== Proof.KernelIdeal.Point.lean ====
/-
  The grid's 96 points: which of the six cases each is in, what the scratch and the output buffer hold after it, and
  the run of the body at any of them.
-/
module

public import proofs.«01_k».proof.Proof.KernelIdeal.RunTok
public import proofs.«01_k».proof.Proof.KernelIdeal.RunFirst
public import proofs.«01_k».proof.Proof.KernelIdeal.RunHidden
public import proofs.«01_k».proof.Proof.KernelIdeal.RunBias
public import proofs.«01_k».proof.Proof.KernelIdeal.RunOut
public import proofs.«01_k».proof.Proof.KernelIdeal.RunLast

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first pass is points 0 to 31. -/
theorem c1 : ∀ t : Fin cfg0.N, k0_cond1 (grid0.coords t) = 1#1 ↔ t.val < 32 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [k0_cond1, e0, e1]
    word_cmp
   : ∀ t : Fin grid0.N, k0_cond1 (grid0.coords t) = 1#1 ↔ t.val < 32)

/-- The sums are zeroed at the first point of a pass. -/
theorem cz : ∀ t : Fin cfg0.N, (Scalar.cmpi .ne (Scalar.extui (Scalar.cmpi .eq (BitVec.ofNat 32 (grid0.coords t 1).val) 0#32)) 0#32 = 1#1) ↔ t.val % 32 = 0 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [e0, e1]
    word_cmp
   : ∀ t : Fin grid0.N, (Scalar.cmpi .ne (Scalar.extui (Scalar.cmpi .eq (BitVec.ofNat 32 (grid0.coords t 1).val) 0#32)) 0#32 = 1#1) ↔ t.val % 32 = 0)

/-- The second pass is points 32 to 63. -/
theorem c3 : ∀ t : Fin cfg0.N, k0_cond3 (grid0.coords t) = 1#1 ↔ (32 ≤ t.val ∧ t.val < 64) :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [k0_cond3, e0, e1]
    word_cmp
   : ∀ t : Fin grid0.N, k0_cond3 (grid0.coords t) = 1#1 ↔ (32 ≤ t.val ∧ t.val < 64))

/-- The first half of a pass. -/
theorem c4 : ∀ t : Fin cfg0.N, k0_cond4 (grid0.coords t) = 1#1 ↔ t.val % 32 < 16 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [k0_cond4, e0, e1]
    word_cmp
   : ∀ t : Fin grid0.N, k0_cond4 (grid0.coords t) = 1#1 ↔ t.val % 32 < 16)

/-- The middle point of a pass. -/
theorem cb : ∀ t : Fin cfg0.N, (Scalar.cmpi .ne (Scalar.extui (Scalar.cmpi .eq (BitVec.ofNat 32 (grid0.coords t 1).val) 16#32)) 0#32 = 1#1) ↔ t.val % 32 = 16 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [e0, e1]
    word_cmp
   : ∀ t : Fin grid0.N, (Scalar.cmpi .ne (Scalar.extui (Scalar.cmpi .eq (BitVec.ofNat 32 (grid0.coords t 1).val) 16#32)) 0#32 = 1#1) ↔ t.val % 32 = 16)

/-- The second half of a pass. -/
theorem c6 : ∀ t : Fin cfg0.N, k0_cond6 (grid0.coords t) = 1#1 ↔ 16 ≤ t.val % 32 :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [k0_cond6, e0, e1]
    word_cmp
   : ∀ t : Fin grid0.N, k0_cond6 (grid0.coords t) = 1#1 ↔ 16 ≤ t.val % 32)

/-- The last pass is points 64 to 95. -/
theorem c7 : ∀ t : Fin cfg0.N, k0_cond7 (grid0.coords t) = 1#1 ↔ 64 ≤ t.val :=
  (fun t => by
    have ht : t.val < 96 := Nat.lt_of_lt_of_eq t.isLt N_0
    have e0 : (grid0.coords t 0).val = t.val / 32 % 3 := Pipeline.Grid.coords_val t 0 (by decide) rfl
    have e1 : (grid0.coords t 1).val = t.val / 1 % 32 := Pipeline.Grid.coords_val t 1 (by decide) rfl
    simp only [k0_cond7, e0, e1]
    word_cmp
   : ∀ t : Fin grid0.N, k0_cond7 (grid0.coords t) = 1#1 ↔ 64 ≤ t.val)

/-- The scratch buffers' contents after point `t`, from those before it and the point's input blocks. -/
def next (t : Fin cfg0.N) (I : Ins F) (s : St F) : St F :=
  if h1 : t.val < 32 then
    if t.val = 0 then stepTok (grid0.coords t) I (stepZero s) else stepTok (grid0.coords t) I s
  else if h3 : t.val < 64 then
    if h4 : t.val < 48 then
      stepHidden (grid0.coords t) ⟨(c3 t).mpr ⟨by omega, h3⟩, (c4 t).mpr (by omega)⟩ I (stepShared (grid0.coords t) I s)
    else if t.val = 48 then
      stepOut (grid0.coords t) ⟨(c3 t).mpr ⟨by omega, h3⟩, (c6 t).mpr (by omega)⟩ I (stepBias I (stepShared (grid0.coords t) I s))
    else
      stepOut (grid0.coords t) ⟨(c3 t).mpr ⟨by omega, h3⟩, (c6 t).mpr (by omega)⟩ I (stepShared (grid0.coords t) I s)
  else s

/-- The output buffer's contents after point `t`. -/
def nextOut (t : Fin cfg0.N) (o : Vec F S256x1024 .f32) (s : St F) : Vec F S256x1024 .f32 :=
  if h7 : 64 ≤ t.val then outBlk (grid0.coords t) ((c7 t).mpr h7) s else o

/-- The run of the body at any point. -/
theorem runPoint (c : Dev nD) (t : Fin cfg0.N) (I : Ins F) (o : Vec F S256x1024 .f32) (s : St F) :
    BodyRun c (grid0.coords t) I o s (nextOut t o s) (next t I s) := by
  by_cases h1 : t.val < 32
  · have e : nextOut t o s = o := dif_neg (by omega)
    have k1 := (c1 t).mpr h1
    have k3 : ¬k0_cond3 (grid0.coords t) = 1#1 := fun h => by have := (c3 t).mp h; omega
    have k7 : ¬k0_cond7 (grid0.coords t) = 1#1 := fun h => by have := (c7 t).mp h; omega
    by_cases h0 : t.val = 0
    · have e' : next t I s = stepTok (grid0.coords t) I (stepZero s) := by unfold next; rw [dif_pos h1, if_pos h0]
      rw [e, e']
      exact runFirst c _ I o s k1 ((cz t).mpr (by omega)) k3 k7
    · have e' : next t I s = stepTok (grid0.coords t) I s := by unfold next; rw [dif_pos h1, if_neg h0]
      rw [e, e']
      exact runTok c _ I o s k1 (fun h => by have := (cz t).mp h; omega) k3 k7
  have k1 : ¬k0_cond1 (grid0.coords t) = 1#1 := fun h => by have := (c1 t).mp h; omega
  by_cases h3 : t.val < 64
  · have e : nextOut t o s = o := dif_neg (by omega)
    have k3 := (c3 t).mpr ⟨by omega, h3⟩
    have k7 : ¬k0_cond7 (grid0.coords t) = 1#1 := fun h => by have := (c7 t).mp h; omega
    by_cases h4 : t.val < 48
    · have e' : next t I s = stepHidden (grid0.coords t) ⟨k3, (c4 t).mpr (by omega)⟩ I (stepShared (grid0.coords t) I s) := by
        unfold next; rw [dif_neg h1, dif_pos h3, dif_pos h4]
      rw [e, e']
      exact runHidden c _ I o s k1 k3 ((c4 t).mpr (by omega)) (fun h => by have := (cb t).mp h; omega) (fun h => by have := (c6 t).mp h; omega) k7
    have k4 : ¬k0_cond4 (grid0.coords t) = 1#1 := fun h => by have := (c4 t).mp h; omega
    have k6 := (c6 t).mpr (by omega)
    by_cases h5 : t.val = 48
    · have e' : next t I s = stepOut (grid0.coords t) ⟨k3, k6⟩ I (stepBias I (stepShared (grid0.coords t) I s)) := by
        unfold next; rw [dif_neg h1, dif_pos h3, dif_neg h4, if_pos h5]
      rw [e, e']
      exact runBias c _ I o s k1 k3 k4 ((cb t).mpr (by omega)) k6 k7
    · have e' : next t I s = stepOut (grid0.coords t) ⟨k3, k6⟩ I (stepShared (grid0.coords t) I s) := by
        unfold next; rw [dif_neg h1, dif_pos h3, dif_neg h4, if_neg h5]
      rw [e, e']
      exact runOut c _ I o s k1 k3 k4 (fun h => by have := (cb t).mp h; omega) k6 k7
  · have e : nextOut t o s = outBlk (grid0.coords t) ((c7 t).mpr (by omega)) s := dif_pos (by omega)
    have e' : next t I s = s := by unfold next; rw [dif_neg h1, dif_neg h3]
    rw [e, e']
    exact runLast c _ I o s k1 (fun h => by have := (c3 t).mp h; omega) ((c7 t).mpr (by omega))

variable (m : (ℓ : Loc nD τ sig) → Buf (Elt F) ℓ)

/-- The ten inputs' blocks at point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- What the launch hands the region: the six scratch buffers at anything, and the generator register. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- The body table's row at point `t` is the body as `bodyAt0` spells it. -/
theorem defs_row (t : Fin cfg0.N) :
    defs₀ (F := F) .tc cfg0.body (cfg0.bodyArgs t (cfg0.slots t)) = bodyAt0 t := by
  unfold defs₀; rw [Defs.onTc_tc]

end Cert.KernelIdeal.Hand

end
-- ==== Proof.KernelIdeal.Frames.lean ====
/-
  The frame: every execution of the program ends, its arguments unchanged and its semaphores at zero. Nothing is said
  here of what the output holds.
-/
module

public import proofs.«01_k».proof.Proof.KernelIdeal.Point
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window, of whose contents nothing is said. -/
def outOnly : Fin 11 → Bool := fun w => w.val == 10

/-- The proof data of the run: each input's buffer holds its block, the scratch buffers hold anything. -/
def loose (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q _ := fullShare
  owed _ := 0

/-- Its arrays are the contents at the region's entry. -/
theorem loose_A (c : Dev nD) (w : Fin cfg0.W) : (loose m 0 c).A w = V m c (Pipeline.arrRef spec0 w) := by
  dsimp only [loose]

/-- Input 0's buffer holds its block before and after each point. -/
theorem loose_after0 (c : Dev nD) (t : Fin cfg0.N) : (loose m 0 c).after 0 t = iblk m c 0 t := by dsimp only [loose]
theorem loose_before0 (c : Dev nD) (t : Fin cfg0.N) (d) : (loose m 0 c).before 0 t d = iblk m c 0 t :=
  before0_0_of m (loose m 0 c) (loose_A m c 0) (loose_after0 m c) t d

/-- Input 1's buffer holds its block before and after each point. -/
theorem loose_after1 (c : Dev nD) (t : Fin cfg0.N) : (loose m 0 c).after 1 t = iblk m c 1 t := by dsimp only [loose]
theorem loose_before1 (c : Dev nD) (t : Fin cfg0.N) (d) : (loose m 0 c).before 1 t d = iblk m c 1 t :=
  before0_1_of m (loose m 0 c) (loose_A m c 1) (loose_after1 m c) t d

/-- Input 2's buffer holds its block before and after each point. -/
theorem loose_after2 (c : Dev nD) (t : Fin cfg0.N) : (loose m 0 c).after 2 t = iblk m c 2 t := by dsimp only [loose]
theorem loose_before2 (c : Dev nD) (t : Fin cfg0.N) (d) : (loose m 0 c).before 2 t d = iblk m c 2 t :=
  before0_2_of m (loose m 0 c) (loose_A m c 2) (loose_after2 m c) t d

/-- Input 3's buffer holds its block before and after each point. -/
theorem loose_after3 (c : Dev nD) (t : Fin cfg0.N) : (loose m 0 c).after 3 t = iblk m c 3 t := by dsimp only [loose]
theorem loose_before3 (c : Dev nD) (t : Fin cfg0.N) (d) : (loose m 0 c).before 3 t d = iblk m c 3 t :=
  before0_3_of m (loose m 0 c) (loose_A m c 3) (loose_after3 m c) t d

/-- Input 4's buffer holds its block before and after each point. -/
theorem loose_after4 (c : Dev nD) (t : Fin cfg0.N) : (loose m 0 c).after 4 t = iblk m c 4 t := by dsimp only [loose]
theorem loose_before4 (c : Dev nD) (t : Fin cfg0.N) (d) : (loose m 0 c).before 4 t d = iblk m c 4 t :=
  before0_4_of m (loose m 0 c) (loose_A m c 4) (loose_after4 m c) t d

/-- Input 5's buffer holds its block before and after each point. -/
theorem loose_after5 (c : Dev nD) (t : Fin cfg0.N) : (loose m 0 c).after 5 t = iblk m c 5 t := by dsimp only [loose]
theorem loose_before5 (c : Dev nD) (t : Fin cfg0.N) (d) : (loose m 0 c).before 5 t d = iblk m c 5 t :=
  before0_5_of m (loose m 0 c) (loose_A m c 5) (loose_after5 m c) t d

/-- Input 6's buffer holds its block before and after each point. -/
theorem loose_after6 (c : Dev nD) (t : Fin cfg0.N) : (loose m 0 c).after 6 t = iblk m c 6 t := by dsimp only [loose]
theorem loose_before6 (c : Dev nD) (t : Fin cfg0.N) (d) : (loose m 0 c).before 6 t d = iblk m c 6 t :=
  before0_6_of m (loose m 0 c) (loose_A m c 6) (loose_after6 m c) t d

/-- Input 7's buffer holds its block before and after each point. -/
theorem loose_after7 (c : Dev nD) (t : Fin cfg0.N) : (loose m 0 c).after 7 t = iblk m c 7 t := by dsimp only [loose]
theorem loose_before7 (c : Dev nD) (t : Fin cfg0.N) (d) : (loose m 0 c).before 7 t d = iblk m c 7 t :=
  before0_7_of m (loose m 0 c) (loose_A m c 7) (loose_after7 m c) t d

/-- Input 8's buffer holds its block before and after each point. -/
theorem loose_after8 (c : Dev nD) (t : Fin cfg0.N) : (loose m 0 c).after 8 t = iblk m c 8 t := by dsimp only [loose]
theorem loose_before8 (c : Dev nD) (t : Fin cfg0.N) (d) : (loose m 0 c).before 8 t d = iblk m c 8 t :=
  before0_8_of m (loose m 0 c) (loose_A m c 8) (loose_after8 m c) t d

/-- Input 9's buffer holds its block before and after each point. -/
theorem loose_after9 (c : Dev nD) (t : Fin cfg0.N) : (loose m 0 c).after 9 t = iblk m c 9 t := by dsimp only [loose]
theorem loose_before9 (c : Dev nD) (t : Fin cfg0.N) (d) : (loose m 0 c).before 9 t d = iblk m c 9 t :=
  before0_9_of m (loose m 0 c) (loose_A m c 9) (loose_after9 m c) t d

/-- What the body is given at point `t`, -/
def loosePre (c : Dev nD) (t : Fin cfg0.N) : sProp 𝕄 :=
  iprop((loose m 0 c).Φ t.castSucc ∗ (loose m 0 c).owesAt () t.castSucc
    ∗ (∃ d, owns (c : Thread nD τ) (st0_0 t) fullShare ((loose m 0 c).before 0 t d))
    ∗ (∃ d, owns (c : Thread nD τ) (st0_1 t) fullShare ((loose m 0 c).before 1 t d))
    ∗ (∃ d, owns (c : Thread nD τ) (st0_2 t) fullShare ((loose m 0 c).before 2 t d))
    ∗ (∃ d, owns (c : Thread nD τ) (st0_3 t) fullShare ((loose m 0 c).before 3 t d))
    ∗ (∃ d, owns (c : Thread nD τ) (st0_4 t) fullShare ((loose m 0 c).before 4 t d))
    ∗ (∃ d, owns (c : Thread nD τ) (st0_5 t) fullShare ((loose m 0 c).before 5 t d))
    ∗ (∃ d, owns (c : Thread nD τ) (st0_6 t) fullShare ((loose m 0 c).before 6 t d))
    ∗ (∃ d, owns (c : Thread nD τ) (st0_7 t) fullShare ((loose m 0 c).before 7 t d))
    ∗ (∃ d, owns (c : Thread nD τ) (st0_8 t) fullShare ((loose m 0 c).before 8 t d))
    ∗ (∃ d, owns (c : Thread nD τ) (st0_9 t) fullShare ((loose m 0 c).before 9 t d))
    ∗ (∃ d, owns (c : Thread nD τ) (st0_10 t) fullShare d))

/-- and what it gives back. -/
def loosePost (c : Dev nD) (t : Fin cfg0.N) : sProp 𝕄 :=
  iprop((loose m 0 c).Φ t.succ ∗ (loose m 0 c).owesAt () t.succ
    ∗ (loose m 0 c).leavesExact 0 t
    ∗ (loose m 0 c).leavesExact 1 t
    ∗ (loose m 0 c).leavesExact 2 t
    ∗ (loose m 0 c).leavesExact 3 t
    ∗ (loose m 0 c).leavesExact 4 t
    ∗ (loose m 0 c).leavesExact 5 t
    ∗ (loose m 0 c).leavesExact 6 t
    ∗ (loose m 0 c).leavesExact 7 t
    ∗ (loose m 0 c).leavesExact 8 t
    ∗ (loose m 0 c).leavesExact 9 t
    ∗ (∃ d, owns (c : Thread nD τ) (st0_10 t) fullShare d))

theorem loose_leaves0 (c : Dev nD) (t : Fin cfg0.N) : (loose m 0 c).leavesExact 0 t = owns (c : Thread nD τ) (st0_0 t) fullShare (iblk m c 0 t) := by
  rw [← loose_after0 m c t]

theorem loose_leaves1 (c : Dev nD) (t : Fin cfg0.N) : (loose m 0 c).leavesExact 1 t = owns (c : Thread nD τ) (st0_1 t) fullShare (iblk m c 1 t) := by
  rw [← loose_after1 m c t]

theorem loose_leaves2 (c : Dev nD) (t : Fin cfg0.N) : (loose m 0 c).leavesExact 2 t = owns (c : Thread nD τ) (st0_2 t) fullShare (iblk m c 2 t) := by
  rw [← loose_after2 m c t]

theorem loose_leaves3 (c : Dev nD) (t : Fin cfg0.N) : (loose m 0 c).leavesExact 3 t = owns (c : Thread nD τ) (st0_3 t) fullShare (iblk m c 3 t) := by
  rw [← loose_after3 m c t]

theorem loose_leaves4 (c : Dev nD) (t : Fin cfg0.N) : (loose m 0 c).leavesExact 4 t = owns (c : Thread nD τ) (st0_4 t) fullShare (iblk m c 4 t) := by
  rw [← loose_after4 m c t]

theorem loose_leaves5 (c : Dev nD) (t : Fin cfg0.N) : (loose m 0 c).leavesExact 5 t = owns (c : Thread nD τ) (st0_5 t) fullShare (iblk m c 5 t) := by
  rw [← loose_after5 m c t]

theorem loose_leaves6 (c : Dev nD) (t : Fin cfg0.N) : (loose m 0 c).leavesExact 6 t = owns (c : Thread nD τ) (st0_6 t) fullShare (iblk m c 6 t) := by
  rw [← loose_after6 m c t]

theorem loose_leaves7 (c : Dev nD) (t : Fin cfg0.N) : (loose m 0 c).leavesExact 7 t = owns (c : Thread nD τ) (st0_7 t) fullShare (iblk m c 7 t) := by
  rw [← loose_after7 m c t]

theorem loose_leaves8 (c : Dev nD) (t : Fin cfg0.N) : (loose m 0 c).leavesExact 8 t = owns (c : Thread nD τ) (st0_8 t) fullShare (iblk m c 8 t) := by
  rw [← loose_after8 m c t]

theorem loose_leaves9 (c : Dev nD) (t : Fin cfg0.N) : (loose m 0 c).leavesExact 9 t = owns (c : Thread nD τ) (st0_9 t) fullShare (iblk m c 9 t) := by
  rw [← loose_after9 m c t]

set_option maxHeartbeats 4000000 in
/-- The body at any point keeps the inputs' blocks and leaves some contents in the other buffers. -/
theorem loose_body (c : Dev nD) (t : Fin cfg0.N) :
    loosePre m c t ⊢ wp frame (wpE (defs₀ (F := F)) Variants.none c none) Set.univ (bodyAt0 t) (fun _ => loosePost m c t) := by
  unfold loosePre loosePost
  simp only [loose_before0, loose_before1, loose_before2, loose_before3, loose_before4, loose_before5, loose_before6, loose_before7, loose_before8, loose_before9, loose_leaves0, loose_leaves1, loose_leaves2, loose_leaves3, loose_leaves4, loose_leaves5, loose_leaves6, loose_leaves7, loose_leaves8, loose_leaves9]
  rw [show (loose m 0 c).owesAt () t.succ = (loose m 0 c).owesAt () t.castSucc from rfl,
    show (loose m 0 c).Φ t.succ = Pipeline.ΦA spec0 c from rfl, show (loose m 0 c).Φ t.castSucc = Pipeline.ΦA spec0 c from rfl, phi_eq]
  iintro ⟨⟨⟨⟨%g0, G0⟩, ⟨%g1, G1⟩, ⟨%g2, G2⟩, ⟨%g3, G3⟩, ⟨%g4, G4⟩, ⟨%g5, G5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%o, H10⟩⟩
  iapply (runPoint c t (insAt m c t) o ⟨g0, g1, g2, g3, g4, g5⟩ _ _ _ _ _ _ _ _ _ _ _ _ _ _ _ _ _ _ _ _ _ _ _ _ _ _ _ _ _ _ _ _ _ _ Set.univ _)
  unfold held
  isplitl [H0 H1 H2 H3 H4 H5 H6 H7 H8 H9 H10 G0 G1 G2 G3 G4 G5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [G0]; · iexact G0
    isplitl [G1]; · iexact G1
    isplitl [G2]; · iexact G2
    isplitl [G3]; · iexact G3
    isplitl [G4]; · iexact G4
    iexact G5
  iintro ⟨H0, H1, H2, H3, H4, H5, H6, H7, H8, H9, H10, G0, G1, G2, G3, G4, G5⟩
  isplitl [G0 G1 G2 G3 G4 G5 Hg]
  · isplitl [G0 G1 G2 G3 G4 G5]
    · isplitl [G0]; · iexists _; iexact G0
      isplitl [G1]; · iexists _; iexact G1
      isplitl [G2]; · iexists _; iexact G2
      isplitl [G3]; · iexists _; iexact G3
      isplitl [G4]; · iexists _; iexact G4
      iexists _; iexact G5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- The pipeline's obligation on the body, at every point. -/
theorem loose_obligation (c : Dev nD) : BodyObligation (loose (F := F) m 0 c) (defs₀ (F := F)) Variants.none () Set.univ outOnly := fun t => by
  rw [bigSep_W0, bigSep_W0, defs_row]
  exact triple_restated (loose_body m c t) rfl .rfl fun _ => .rfl

set_option backward.isDefEq.respectTransparency.types false in
/-- Every execution ends, with the inputs' arrays as they were and every semaphore at zero. -/
theorem loose_run : θ_run defs (onTc (τ := τ) (main (F := F))) (s₀ m ρ) (fun r => (Pipeline.RDat.FramePost (cfgs 0) (fun c => (loose m 0 c).toRForget outOnly) (V m)) r ∧ r.2.sem = fun _ => 0) :=
  Pipeline.θ_run_frame_track_forget (Q' := _) cfgs (loose m) (0 : Fin 1) launch0 defs₀ Variants.none outOnly m ρ main
    (hbody := fun c => (loose_obligation m c).loose) (hshare := fun c => (loose m 0 c).share_full fun _ => rfl)
    (howed := fun _ _ => rfl) (V := V m) (hmain := hmain m Variants.none) (hA := loose_A m) (hin := fun _ => .rfl) (hout := fun _ => .rfl)

/-- Every execution ends with the arguments unchanged and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(Pipeline.RDat.FramePost.arr_in h.1 c 0 rfl).trans ((loose_A m c 0).trans (V_main_arg0 m c)),
    (Pipeline.RDat.FramePost.arr_in h.1 c 1 rfl).trans ((loose_A m c 1).trans (V_main_arg1 m c)),
    (Pipeline.RDat.FramePost.arr_in h.1 c 2 rfl).trans ((loose_A m c 2).trans (V_main_arg2 m c)),
    (Pipeline.RDat.FramePost.arr_in h.1 c 3 rfl).trans ((loose_A m c 3).trans (V_main_arg3 m c)),
    (Pipeline.RDat.FramePost.arr_in h.1 c 4 rfl).trans ((loose_A m c 4).trans (V_main_arg4 m c)),
    (Pipeline.RDat.FramePost.arr_in h.1 c 5 rfl).trans ((loose_A m c 5).trans (V_main_arg5 m c)),
    (Pipeline.RDat.FramePost.arr_in h.1 c 6 rfl).trans ((loose_A m c 6).trans (V_main_arg6 m c)),
    ((h.1 c).2 main_arg7 (Pipeline.mem_restRefs_of main_arg7 (by decide) (by decide))).trans (V_main_arg7 m c),
    (Pipeline.RDat.FramePost.arr_in h.1 c 8 rfl).trans ((loose_A m c 8).trans (V_main_arg8 m c)),
    ((h.1 c).2 main_arg9 (Pipeline.mem_restRefs_of main_arg9 (by decide) (by decide))).trans (V_main_arg9 m c)⟩, h.2⟩) (loose_run m ρ)

end Cert.KernelIdeal.Hand

end
-- ==== Proof.KernelIdeal.Payload.lean ====
module

public import proofs.«01_k».proof.Proof.Spec
public import proofs.«01_k».proof.Proof.KernelIdeal.Step

@[expose] public section

set_option maxRecDepth 16384

/-!
# What each stored block holds

Every block the kernel stores, read at an index over the extended reals: sums over the contracted axis, the smooth gate and the row softmax.
-/

namespace Cert.KernelIdeal.Hand

open Cert.KernelIdeal Cert.KernelIdeal.Gen Cert.Moe
open Idealize.ShloMosaic

variable (x : Vec Ideal S256x1024 .f32) (wr : Vec Ideal S8x1024 .f32)

/-- A block of scores: the product of a block of tokens and the router's weights. -/
theorem pay4_apply (j : S256x8.Idx) : k0_pay4 (F := Ideal) x wr j = ∑ k : Fin 1024, x (ix2 (j 0) k) * wr (ix2 (j 1) k) := by
  pointwise [k0_pay4, k0_pay3]
  exact div_one' _

/-- The normalizers grow by the exponentials of the block's scores. -/
theorem pay6_apply (z : Vec Ideal S1x8 .f32) (j : S1x8.Idx) :
    k0_pay6 (F := Ideal) x wr z j = z j + ∑ p : Fin 256, Ideal.exp (∑ k : Fin 1024, x (ix2 p k) * wr (ix2 (j 1) k)) := by
  pointwise [k0_pay6, k0_pay5, k0_pay3]
  simp only [div_one']

/-- The weighted token sums grow by the block's tokens. -/
theorem pay7_apply (a : Vec Ideal S8x1024 .f32) (j : S8x1024.Idx) :
    k0_pay7 (F := Ideal) x wr a j
      = a j + ∑ p : Fin 256, Ideal.exp (∑ k : Fin 1024, x (ix2 p k) * wr (ix2 (j 0) k)) * x (ix2 p (j 1)) := by
  pointwise [k0_pay7, k0_pay5, k0_pay3]
  simp only [div_one']

/-- The normalizers start at zero. -/
theorem pay1_apply (j : S1x8.Idx) : k0_pay1 (F := Ideal) j = 0 := by pointwise [k0_pay1]

/-- The weighted token sums start at zero. -/
theorem pay2_apply (j : S8x1024.Idx) : k0_pay2 (F := Ideal) j = 0 := by pointwise [k0_pay2]

/-- A block of the shared expert's output. -/
theorem pay33_apply (s1 : Vec Ideal S2048x1024 .f32) (sb1 : Vec Ideal S1x2048 .f32) (s2 : Vec Ideal S1024x2048 .f32) (sb2 : Vec Ideal S1x1024 .f32)
    (j : S256x1024.Idx) :
    k0_pay33 (F := Ideal) x s1 sb1 s2 sb2 j
      = (∑ q : Fin 2048, gelu ((∑ k : Fin 1024, x (ix2 (j 0) k) * s1 (ix2 q k)) + sb1 (ix2 0 q)) * s2 (ix2 (j 1) q)) + sb2 (ix2 0 (j 1)) := by
  pointwise [k0_pay33]
  rfl

/-- The reciprocals of the normalizers. -/
theorem pay34_apply (z : Vec Ideal S1x8 .f32) (j : S1x8.Idx) : k0_pay34 (F := Ideal) z j = Ideal.div 1 (z j) := by
  pointwise [k0_pay34]

/-- The experts' outputs start at their biases. -/
theorem pay10_apply (b : Vec Ideal S8x1024 .f32) (j : S8x1024.Idx) : k0_pay10 (F := Ideal) b j = b j := by pointwise [k0_pay10]

/-- An output block: the shared expert's rows plus the row softmax of the scores times the experts' outputs. -/
theorem pay11_apply (l : Vec Ideal S256x8 .f32) (s : Vec Ideal S256x1024 .f32) (y : Vec Ideal S8x1024 .f32) (j : S256x1024.Idx) :
    k0_pay11 (F := Ideal) l s y j
      = s j + ∑ e : Fin 8, Ideal.div
          (Ideal.exp (l (ix2 (j 0) e) - Finset.fold max (Ideal.ofBits .f32 4286578688#32) (fun e : Fin 8 => l (ix2 (j 0) e)) Finset.univ))
          (∑ e' : Fin 8, Ideal.exp (l (ix2 (j 0) e') - Finset.fold max (Ideal.ofBits .f32 4286578688#32) (fun e : Fin 8 => l (ix2 (j 0) e)) Finset.univ))
          * y (ix2 e (j 1)) := by
  pointwise [k0_pay11]

/-- A row of hidden entries of expert number `e`, from its weighted token sums, a block of its weights and the reciprocal of its normalizer. -/
noncomputable def hidRow (e : Fin 8) (zi : Vec Ideal S1x8 .f32) (a : Vec Ideal S1x1024 .f32) (w : Vec Ideal S1x128x1024 .f32) (b : Vec Ideal S1x128 .f32) :
    Vec Ideal S1x128 .f32 :=
  fun j => gelu ((∑ k : Fin 1024, a (ix2 (j 0) k) * w (ix3 0 (j 1) k)) * zi (ix2 0 e) + b j)

/-- A row of an expert's output grown by a block of its hidden entries times a block of its weights. -/
noncomputable def outRow (y : Vec Ideal S1x1024 .f32) (h : Vec Ideal S1x128 .f32) (w : Vec Ideal S1x1024x128 .f32) : Vec Ideal S1x1024 .f32 :=
  fun j => y j + ∑ k : Fin 128, h (ix2 (j 0) k) * w (ix3 0 (j 1) k)

/-- The hidden row of expert 0. -/
theorem hid0_eq (zi : Vec Ideal S1x8 .f32) (a : Vec Ideal S1x1024 .f32) (w : Vec Ideal S1x128x1024 .f32) (b : Vec Ideal S1x128 .f32) :
    k0_pay12 (F := Ideal) zi a w b = hidRow 0 zi a w b := by
  funext j
  pointwise [k0_pay12]
  rfl

/-- The hidden row of expert 1. -/
theorem hid1_eq (zi : Vec Ideal S1x8 .f32) (a : Vec Ideal S1x1024 .f32) (w : Vec Ideal S1x128x1024 .f32) (b : Vec Ideal S1x128 .f32) :
    k0_pay14 (F := Ideal) (k0_pay13 zi a w) b = hidRow 1 zi a w b := by
  funext j
  pointwise [k0_pay14, k0_pay13]
  rfl

/-- The hidden row of expert 2. -/
theorem hid2_eq (zi : Vec Ideal S1x8 .f32) (a : Vec Ideal S1x1024 .f32) (w : Vec Ideal S1x128x1024 .f32) (b : Vec Ideal S1x128 .f32) :
    k0_pay17 (F := Ideal) (k0_pay15 zi a w b) (k0_pay16 zi a w b) = hidRow 2 zi a w b := by
  funext j
  pointwise [k0_pay17, k0_pay15, k0_pay16]
  rfl

/-- The hidden row of expert 3. -/
theorem hid3_eq (zi : Vec Ideal S1x8 .f32) (a : Vec Ideal S1x1024 .f32) (w : Vec Ideal S1x128x1024 .f32) (b : Vec Ideal S1x128 .f32) :
    k0_pay18 (F := Ideal) zi a w b = hidRow 3 zi a w b := by
  funext j
  pointwise [k0_pay18]
  rfl

/-- The hidden row of expert 4. -/
theorem hid4_eq (zi : Vec Ideal S1x8 .f32) (a : Vec Ideal S1x1024 .f32) (w : Vec Ideal S1x128x1024 .f32) (b : Vec Ideal S1x128 .f32) :
    k0_pay19 (F := Ideal) zi a w b = hidRow 4 zi a w b := by
  funext j
  pointwise [k0_pay19]
  rfl

/-- The hidden row of expert 5. -/
theorem hid5_eq (zi : Vec Ideal S1x8 .f32) (a : Vec Ideal S1x1024 .f32) (w : Vec Ideal S1x128x1024 .f32) (b : Vec Ideal S1x128 .f32) :
    k0_pay22 (F := Ideal) (k0_pay20 zi a w b) (k0_pay21 zi a w b) = hidRow 5 zi a w b := by
  funext j
  pointwise [k0_pay22, k0_pay20, k0_pay21]
  rfl

/-- The hidden row of expert 6. -/
theorem hid6_eq (zi : Vec Ideal S1x8 .f32) (a : Vec Ideal S1x1024 .f32) (w : Vec Ideal S1x128x1024 .f32) (b : Vec Ideal S1x128 .f32) :
    k0_pay8 (F := Ideal) (k0_pay23 zi a w b) = hidRow 6 zi a w b := by
  funext j
  pointwise [k0_pay8, k0_pay23]
  rfl

/-- The hidden row of expert 7. -/
theorem hid7_eq (zi : Vec Ideal S1x8 .f32) (a : Vec Ideal S1x1024 .f32) (w : Vec Ideal S1x128x1024 .f32) (b : Vec Ideal S1x128 .f32) :
    k0_pay9 (F := Ideal) zi a w b = hidRow 7 zi a w b := by
  funext j
  pointwise [k0_pay9]
  rfl

/-- The grown output row of expert 0. -/
theorem out0_eq (y : Vec Ideal S1x1024 .f32) (h : Vec Ideal S1x128 .f32) (w : Vec Ideal S1x1024x128 .f32) :
    k0_pay24 (F := Ideal) y h w = outRow y h w := by
  funext j
  pointwise [k0_pay24]
  rfl

/-- The grown output row of expert 1. -/
theorem out1_eq (y : Vec Ideal S1x1024 .f32) (h : Vec Ideal S1x128 .f32) (w : Vec Ideal S1x1024x128 .f32) :
    k0_pay25 (F := Ideal) y h w = outRow y h w := by
  funext j
  pointwise [k0_pay25]
  rfl

/-- The grown output row of expert 2. -/
theorem out2_eq (y : Vec Ideal S1x1024 .f32) (h : Vec Ideal S1x128 .f32) (w : Vec Ideal S1x1024x128 .f32) :
    k0_pay27 (F := Ideal) y h (k0_pay26 w) (constant S1x1024 .f32 0x00000000#32) = outRow y h w := by
  funext j
  pointwise [k0_pay27, k0_pay26]
  rfl

/-- The grown output row of expert 3. -/
theorem out3_eq (y : Vec Ideal S1x1024 .f32) (h : Vec Ideal S1x128 .f32) (w : Vec Ideal S1x1024x128 .f32) :
    k0_pay28 (F := Ideal) y h w = outRow y h w := by
  funext j
  pointwise [k0_pay28]
  rfl

/-- The grown output row of expert 4. -/
theorem out4_eq (y : Vec Ideal S1x1024 .f32) (h : Vec Ideal S1x128 .f32) (w : Vec Ideal S1x1024x128 .f32) :
    k0_pay29 (F := Ideal) y h w = outRow y h w := by
  funext j
  pointwise [k0_pay29]
  rfl

/-- The grown output row of expert 5. -/
theorem out5_eq (y : Vec Ideal S1x1024 .f32) (h : Vec Ideal S1x128 .f32) (w : Vec Ideal S1x1024x128 .f32) :
    k0_pay30 (F := Ideal) y h w = outRow y h w := by
  funext j
  pointwise [k0_pay30]
  rfl

/-- The grown output row of expert 6. -/
theorem out6_eq (y : Vec Ideal S1x1024 .f32) (h : Vec Ideal S1x128 .f32) (w : Vec Ideal S1x1024x128 .f32) :
    k0_pay31 (F := Ideal) y h w = outRow y h w := by
  funext j
  pointwise [k0_pay31]
  rfl

/-- The grown output row of expert 7. -/
theorem out7_eq (y : Vec Ideal S1x1024 .f32) (h : Vec Ideal S1x128 .f32) (w : Vec Ideal S1x1024x128 .f32) :
    k0_pay32 (F := Ideal) y h w = outRow y h w := by
  funext j
  pointwise [k0_pay32]
  rfl

end Cert.KernelIdeal.Hand
-- ==== Proof.KernelIdeal.Blocks.lean ====
module

public import proofs.«01_k».proof.Proof.Spec
public import proofs.«01_k».proof.Proof.KernelIdeal.Point
public import Idealize.ShloMosaic.Lib.Pipeline.ValueKit

@[expose] public section

set_option maxRecDepth 16384

noncomputable section

/-!
# The blocks of the inputs at a point

Where each window stands at each of the 96 points, and each input's block read off its argument array.
-/

namespace Cert.KernelIdeal.Hand

open Cert.KernelIdeal Cert.KernelIdeal.Gen Cert.Moe
open Idealize.ShloMosaic

/-- Where the windows stand at each point. -/
theorem stand : ∀ t : Fin cfg0.N,
    win0_0.index t = ![if t.val < 64 then t.val % 32 else 0, 0] ∧ win0_1.index t = ![0, 0]
      ∧ win0_2.index t = ![0, if t.val < 32 then 0 else min (t.val - 32) 15, 0] ∧ win0_3.index t = ![0, 0]
      ∧ win0_4.index t = ![0, 0, if t.val < 32 then 0 else min (t.val - 48) 15] ∧ win0_5.index t = ![0, 0] ∧ win0_6.index t = ![0, 0]
      ∧ win0_7.index t = ![0, 0] ∧ win0_8.index t = ![0, 0] ∧ win0_9.index t = ![0, 0] ∧ win0_10.index t = ![t.val - 64, 0] :=
  (by decide +kernel : ∀ t : Fin grid0.N, _)

/-- Where the body's loads and stores of the scratch buffers stand at each point. -/
theorem offs : ∀ t : Fin cfg0.N,
    k0_off1 (grid0.coords t) = ![256 * (t.val % 32), 0] ∧ k0_off2 (grid0.coords t) = ![256 * (t.val % 32), 0]
      ∧ k0_off19 (grid0.coords t) = ![256 * (t.val % 32), 0] ∧ k0_off20 (grid0.coords t) = ![256 * (t.val % 32), 0] :=
  (by decide +kernel : ∀ t : Fin grid0.N, _)

/-- Where the eight hidden rows' chunk stands at each point of the first half of the second pass. -/
theorem offs_hid : ∀ t : Fin cfg0.N, 32 ≤ t.val → t.val < 48 →
    k0_off3 (grid0.coords t) = ![0, 128 * (t.val - 32)] ∧ k0_off4 (grid0.coords t) = ![1, 128 * (t.val - 32)]
      ∧ k0_off5 (grid0.coords t) = ![2, 128 * (t.val - 32)] ∧ k0_off6 (grid0.coords t) = ![3, 128 * (t.val - 32)]
      ∧ k0_off7 (grid0.coords t) = ![4, 128 * (t.val - 32)] ∧ k0_off8 (grid0.coords t) = ![5, 128 * (t.val - 32)]
      ∧ k0_off9 (grid0.coords t) = ![6, 128 * (t.val - 32)] ∧ k0_off10 (grid0.coords t) = ![7, 128 * (t.val - 32)] :=
  (by decide +kernel : ∀ t : Fin grid0.N, _)

/-- Where the eight hidden rows' chunk stands at each point of the second half of the second pass. -/
theorem offs_out : ∀ t : Fin cfg0.N, 48 ≤ t.val → t.val < 64 →
    k0_off11 (grid0.coords t) = ![0, 128 * (t.val - 48)] ∧ k0_off12 (grid0.coords t) = ![1, 128 * (t.val - 48)]
      ∧ k0_off13 (grid0.coords t) = ![2, 128 * (t.val - 48)] ∧ k0_off14 (grid0.coords t) = ![3, 128 * (t.val - 48)]
      ∧ k0_off15 (grid0.coords t) = ![4, 128 * (t.val - 48)] ∧ k0_off16 (grid0.coords t) = ![5, 128 * (t.val - 48)]
      ∧ k0_off17 (grid0.coords t) = ![6, 128 * (t.val - 48)] ∧ k0_off18 (grid0.coords t) = ![7, 128 * (t.val - 48)] :=
  (by decide +kernel : ∀ t : Fin grid0.N, _)

variable (m : (ℓ : Loc nD τ sig) → Buf (Elt Ideal) ℓ)

/-- The ten arguments in device memory, read at natural numbers. -/
def args (c : Dev nD) : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

variable (c : Dev nD) (t : Fin cfg0.N)

/-- The block of tokens. -/
theorem x_blk (h : t.val < 64) (j : S256x1024.Idx) : (insAt m c t).x j = (args m c).x (256 * (t.val % 32) + (j 0).val) (j 1).val := by
  show V m c main_arg0 ((win0_0.blk t).view.emb j) = at2 (m ((c.tc : Thread nD τ).loc main_arg0)) _ _
  rw [V_main_arg0]
  refine at2_eq _ _ _ _ ?_ ?_
  · blk_simp [stand t]
    rw [if_pos h, Nat.mul_comm]
  · blk_simp [stand t]

/-- A chunk of the first layer's weights. -/
theorem w1_blk (h : 32 ≤ t.val) (h' : t.val < 48) (j : S8x128x1024.Idx) :
    (insAt m c t).w1 j = (args m c).w1 (j 0).val (128 * (t.val - 32) + (j 1).val) (j 2).val := by
  show V m c main_arg2 ((win0_2.blk t).view.emb j) = at3 (m ((c.tc : Thread nD τ).loc main_arg2)) _ _ _
  rw [V_main_arg2]
  refine at3_eq _ _ _ _ _ ?_ ?_ ?_
  · blk_simp [stand t]
  · blk_simp [stand t]
    rw [if_neg (by omega), Nat.min_eq_left (by omega), Nat.mul_comm]
  · blk_simp [stand t]

/-- A chunk of the second layer's weights. -/
theorem w2_blk (h : 48 ≤ t.val) (h' : t.val < 64) (j : S8x1024x128.Idx) :
    (insAt m c t).w2 j = (args m c).w2 (j 0).val (j 1).val (128 * (t.val - 48) + (j 2).val) := by
  show V m c main_arg4 ((win0_4.blk t).view.emb j) = at3 (m ((c.tc : Thread nD τ).loc main_arg4)) _ _ _
  rw [V_main_arg4]
  refine at3_eq _ _ _ _ _ ?_ ?_ ?_
  · blk_simp [stand t]
  · blk_simp [stand t]
  · blk_simp [stand t]
    rw [if_neg (by omega), Nat.min_eq_left (by omega), Nat.mul_comm]

/-- The router's weights. -/
theorem wr_blk (j : S8x1024.Idx) : (insAt m c t).wr j = (args m c).wr (j 0).val (j 1).val := by
  have e : iblk m c 1 t = m ((c.tc : Thread nD τ).loc main_arg1) := by blk_ext! [iblk, V, stand t]
  exact (congrFun e j).trans (at2_eq _ _ _ _ rfl rfl)

/-- The first layer's biases. -/
theorem b1_blk (j : S8x2048.Idx) : (insAt m c t).b1 j = (args m c).b1 (j 0).val (j 1).val := by
  have e : iblk m c 3 t = m ((c.tc : Thread nD τ).loc main_arg3) := by blk_ext! [iblk, V, stand t]
  exact (congrFun e j).trans (at2_eq _ _ _ _ rfl rfl)

/-- The second layer's biases. -/
theorem b2_blk (j : S8x1024.Idx) : (insAt m c t).b2 j = (args m c).b2 (j 0).val (j 1).val := by
  have e : iblk m c 5 t = m ((c.tc : Thread nD τ).loc main_arg5) := by blk_ext! [iblk, V, stand t]
  exact (congrFun e j).trans (at2_eq _ _ _ _ rfl rfl)

/-- The shared expert's first layer. -/
theorem s1_blk (j : S2048x1024.Idx) : (insAt m c t).s1 j = (args m c).s1 (j 0).val (j 1).val := by
  have e : iblk m c 6 t = m ((c.tc : Thread nD τ).loc main_arg6) := by blk_ext! [iblk, V, stand t]
  exact (congrFun e j).trans (at2_eq _ _ _ _ rfl rfl)

/-- The shared expert's second layer. -/
theorem s2_blk (j : S1024x2048.Idx) : (insAt m c t).s2 j = (args m c).s2 (j 0).val (j 1).val := by
  have e : iblk m c 8 t = m ((c.tc : Thread nD τ).loc main_arg8) := by blk_ext! [iblk, V, stand t]
  exact (congrFun e j).trans (at2_eq _ _ _ _ rfl rfl)

/-- The shared expert's first bias. -/
theorem sb1_blk (j : S1x2048.Idx) : (insAt m c t).sb1 j = (args m c).sb1 (j 1).val := by
  show V m c main_v0 ((win0_7.blk t).view.emb j) = at1 (m ((c.tc : Thread nD τ).loc main_arg7)) _
  entry_read
  pointwise
  refine at1_eq _ _ _ ?_
  blk_simp [stand t]

/-- The shared expert's second bias. -/
theorem sb2_blk (j : S1x1024.Idx) : (insAt m c t).sb2 j = (args m c).sb2 (j 1).val := by
  show V m c main_v1 ((win0_9.blk t).view.emb j) = at1 (m ((c.tc : Thread nD τ).loc main_arg9)) _
  entry_read
  pointwise
  refine at1_eq _ _ _ ?_
  blk_simp [stand t]

end Cert.KernelIdeal.Hand

end
-- ==== Proof.KernelIdeal.Chunk.lean ====
module

public import proofs.«01_k».proof.Proof.KernelIdeal.Payload
public import proofs.«01_k».proof.Proof.KernelIdeal.Blocks

@[expose] public section

set_option maxRecDepth 16384

noncomputable section

/-!
# The steps of the three passes, over the layer's sums

What each step stores, given that the scratch buffers hold the layer's partial sums before it.
-/

namespace Cert.KernelIdeal.Hand

open Cert.KernelIdeal Cert.KernelIdeal.Gen Cert.Moe
open Idealize.ShloMosaic
open VecWindow (put window)

/-- A matrix after a block was put into it holds `f` at an index, if the block holds `f` and so does the matrix outside it. -/
theorem put_at {n0 n1 : ℕ} (x : (⟨2, ![n0, n1]⟩ : Shape).Idx → EReal) (off size : Fin 2 → ℕ) (w : ((a : Fin 2) → Fin (size a)) → EReal)
    (f : ℕ → ℕ → EReal) (p : (⟨2, ![n0, n1]⟩ : Shape).Idx) (o0 o1 s0 s1 : ℕ) (ho : off = ![o0, o1]) (hs0 : size 0 = s0) (hs1 : size 1 = s1)
    (hin : ∀ z, w z = f (o0 + (z 0).val) (o1 + (z 1).val))
    (hout : ¬(o0 ≤ (p 0).val ∧ (p 0).val < o0 + s0 ∧ o1 ≤ (p 1).val ∧ (p 1).val < o1 + s1) → x p = f (p 0).val (p 1).val) :
    put (s := ⟨2, ![n0, n1]⟩) x off size w p = f (p 0).val (p 1).val := by
  subst ho hs0 hs1
  unfold put
  split_ifs with h
  · have h0 : o0 ≤ (p 0).val ∧ (p 0).val < o0 + size 0 := h 0
    have h1 : o1 ≤ (p 1).val ∧ (p 1).val < o1 + size 1 := h 1
    rw [hin]
    show f (o0 + ((p 0).val - o0)) (o1 + ((p 1).val - o1)) = _
    rw [Nat.add_sub_cancel' h0.1, Nat.add_sub_cancel' h1.1]
  · refine hout fun hc => h fun a => ?_
    match a with
    | 0 => exact ⟨hc.1, hc.2.1⟩
    | 1 => exact ⟨hc.2.2.1, hc.2.2.2⟩

/-- Where a unit-stride block places an index along an axis. -/
theorem unit_val {s : Shape} {off size : Fin s.rank → ℕ} (inb : ∀ a, off a + size a ≤ s.size a) (z : (Rect.unit off size inb).shape.Idx) (a : Fin s.rank) :
    ((Rect.unit off size inb).emb z a).val = off a + (z a).val := by
  simp [Rect.emb, Rect.unit]

/-- A window of a matrix at an index is the matrix at that place. -/
theorem window_at2 {n0 n1 : ℕ} (x : (⟨2, ![n0, n1]⟩ : Shape).Idx → EReal) (off size : Fin 2 → ℕ)
    (inb : ∀ a, off a + size a ≤ (⟨2, ![n0, n1]⟩ : Shape).size a) (z : (Rect.unit (s := ⟨2, ![n0, n1]⟩) off size inb).shape.Idx) (i j : ℕ) (v : EReal)
    (h0 : off 0 + (z 0).val = i) (h1 : off 1 + (z 1).val = j)
    (hx : ∀ p : (⟨2, ![n0, n1]⟩ : Shape).Idx, (p 0).val = i → (p 1).val = j → x p = v) :
    window (s := ⟨2, ![n0, n1]⟩) x off size inb z = v :=
  hx _ ((unit_val inb z 0).trans h0) ((unit_val inb z 1).trans h1)

/-- A window of an array of three axes at an index is the array at that place. -/
theorem window_at3 {n0 n1 n2 : ℕ} (x : (⟨3, ![n0, n1, n2]⟩ : Shape).Idx → EReal) (off size : Fin 3 → ℕ)
    (inb : ∀ a, off a + size a ≤ (⟨3, ![n0, n1, n2]⟩ : Shape).size a) (z : (Rect.unit (s := ⟨3, ![n0, n1, n2]⟩) off size inb).shape.Idx) (i j k : ℕ) (v : EReal)
    (h0 : off 0 + (z 0).val = i) (h1 : off 1 + (z 1).val = j) (h2 : off 2 + (z 2).val = k)
    (hx : ∀ p : (⟨3, ![n0, n1, n2]⟩ : Shape).Idx, (p 0).val = i → (p 1).val = j → (p 2).val = k → x p = v) :
    window (s := ⟨3, ![n0, n1, n2]⟩) x off size inb z = v :=
  hx _ ((unit_val inb z 0).trans h0) ((unit_val inb z 1).trans h1)
    ((unit_val inb z 2).trans h2)

variable (m : (ℓ : Loc nD τ sig) → Buf (Elt Ideal) ℓ) (c : Dev nD) (t : Fin cfg0.N) (s : St Ideal)

/-- A block of tokens scored against the router's weights. -/
theorem score_blk (h : t.val < 64) (p : Fin 256) (e : Fin 8) :
    ∑ k : Fin 1024, (insAt m c t).x (ix2 p k) * (insAt m c t).wr (ix2 e k) = logit (args m c) (256 * (t.val % 32) + p.val) e.val :=
  Finset.sum_congr rfl fun k _ => congrArg₂ (· * ·) (x_blk m c t h _) (wr_blk m c t _)

/-- After a point of the first pass the scores of its tokens are stored too. -/
theorem tok_lg (h : t.val < 32) (hs : ∀ p : S8192x8.Idx, (p 0).val < 256 * t.val → s.lg p = logit (args m c) (p 0).val (p 1).val)
    (p : S8192x8.Idx) (hp : (p 0).val < 256 * (t.val + 1)) :
    (stepTok (grid0.coords t) (insAt m c t) s).lg p = logit (args m c) (p 0).val (p 1).val := by
  have ht : t.val % 32 = t.val := Nat.mod_eq_of_lt h
  refine put_at _ _ _ _ (logit (args m c)) p _ _ 256 8 (offs t).1 rfl rfl (fun z => ?_) fun n => hs p ?_
  · rw [pay4_apply, Nat.zero_add]
    exact score_blk m c t (by omega) _ _
  · have : (p 1).val < 8 := (p 1).isLt
    omega

/-- After a point of the first pass the normalizers count its tokens too. -/
theorem tok_z (h : t.val < 32) (hs : ∀ p : S1x8.Idx, s.z p = zsum (args m c) (256 * t.val) (p 1).val) (p : S1x8.Idx) :
    (stepTok (grid0.coords t) (insAt m c t) s).z p = zsum (args m c) (256 * (t.val + 1)) (p 1).val := by
  have ht : t.val % 32 = t.val := Nat.mod_eq_of_lt h
  show k0_pay6 (insAt m c t).x (insAt m c t).wr s.z p = _
  rw [pay6_apply, hs, Nat.mul_add, Nat.mul_one, zsum_add]
  refine congrArg _ (Finset.sum_congr rfl fun q _ => ?_)
  rw [← ht]
  exact congrArg Ideal.exp (score_blk m c t (by omega) _ _)

/-- After a point of the first pass the weighted sums count its tokens too. -/
theorem tok_a (h : t.val < 32) (hs : ∀ p : S8x1024.Idx, s.a p = asum (args m c) (256 * t.val) (p 0).val (p 1).val) (p : S8x1024.Idx) :
    (stepTok (grid0.coords t) (insAt m c t) s).a p = asum (args m c) (256 * (t.val + 1)) (p 0).val (p 1).val := by
  have ht : t.val % 32 = t.val := Nat.mod_eq_of_lt h
  show k0_pay7 (insAt m c t).x (insAt m c t).wr s.a p = _
  rw [pay7_apply, hs, Nat.mul_add, Nat.mul_one, asum_add]
  refine congrArg _ (Finset.sum_congr rfl fun q _ => ?_)
  rw [← ht]
  exact congrArg₂ (· * ·) (congrArg Ideal.exp (score_blk m c t (by omega) _ _)) (x_blk m c t (by omega) _)

/-- After a point of the second pass the shared expert's rows of its tokens are stored too. -/
theorem shared_sh (h : 32 ≤ t.val) (h' : t.val < 64)
    (hs : ∀ p : S8192x1024.Idx, (p 0).val < 256 * (t.val - 32) → s.sh p = shared (args m c) (p 0).val (p 1).val)
    (p : S8192x1024.Idx) (hp : (p 0).val < 256 * (t.val + 1 - 32)) :
    (stepShared (grid0.coords t) (insAt m c t) s).sh p = shared (args m c) (p 0).val (p 1).val := by
  have ht : t.val % 32 = t.val - 32 := by omega
  refine put_at _ _ _ _ (shared (args m c)) p _ _ 256 1024 (offs t).2.1 rfl rfl (fun z => ?_) fun n => hs p ?_
  · rw [pay33_apply, Nat.zero_add]
    refine congrArg₂ (· + ·) (Finset.sum_congr rfl fun q _ => congrArg₂ (· * ·) (congrArg gelu (congrArg₂ (· + ·)
      (Finset.sum_congr rfl fun k _ => congrArg₂ (· * ·) (x_blk m c t h' _) (s1_blk m c t _)) (sb1_blk m c t _))) (s2_blk m c t _)) (sb2_blk m c t _)
  · have : (p 1).val < 1024 := (p 1).isLt
    omega

/-- One expert's chunk of hidden entries. -/
theorem hid_chunk (h : 32 ≤ t.val) (h' : t.val < 48) (e : Fin 8) (off : Fin 2 → ℕ) (ho : off = ![e.val, 128 * (t.val - 32)])
    (hz : ∀ p : S1x8.Idx, s.z p = zsum (args m c) 8192 (p 1).val) (ha : ∀ p : S8x1024.Idx, s.a p = asum (args m c) 8192 (p 0).val (p 1).val)
    (i1 : ∀ a, (![e.val, 0] : Fin 2 → ℕ) a + S1x1024.size a ≤ S8x1024.size a)
    (i2 : ∀ a, (![e.val, 0, 0] : Fin 3 → ℕ) a + S1x128x1024.size a ≤ S8x128x1024.size a)
    (i3 : ∀ a, off a + S1x128.size a ≤ S8x2048.size a) (z : S1x128.Idx) :
    hidRow e (k0_pay34 s.z) (window s.a ![e.val, 0] S1x1024.size i1) (window (insAt m c t).w1 ![e.val, 0, 0] S1x128x1024.size i2)
        (window (insAt m c t).b1 off S1x128.size i3) z
      = hid (args m c) (e.val + (z 0).val) (128 * (t.val - 32) + (z 1).val) := by
  subst ho
  have hz0 : (z 0).val = 0 := by have : (z 0).val < 1 := (z 0).isLt; omega
  rw [hz0, Nat.add_zero]
  unfold hidRow hid
  rw [pay34_apply, hz]
  refine congrArg gelu (congrArg₂ (· + ·) (congrArg₂ (· * ·) (Finset.sum_congr rfl fun k _ => congrArg₂ (· * ·) ?_ ?_) rfl) ?_)
  · exact window_at2 _ _ _ _ _ e.val k.val _ (by show e.val + (z 0).val = _; omega) (by show 0 + k.val = _; omega) fun p h0 h1 => by rw [ha, h0, h1]
  · exact window_at3 _ _ _ _ _ e.val (128 * 0 + (z 1).val) k.val _ (by show e.val + 0 = _; omega) (by show 0 + (z 1).val = _; omega) (by show 0 + k.val = _; omega)
      fun p h0 h1 h2 => by rw [w1_blk m c t h h', h0, h1, h2]; congr 1; omega
  · exact window_at2 _ _ _ _ _ e.val (128 * (t.val - 32) + (z 1).val) _ (by show e.val + (z 0).val = _; omega) rfl fun p h0 h1 => by rw [b1_blk, h0, h1]

/-- One expert's output row, grown by a chunk of its hidden entries. -/
theorem out_chunk (h : 48 ≤ t.val) (h' : t.val < 64) (e : Fin 8) (off : Fin 2 → ℕ) (ho : off = ![e.val, 128 * (t.val - 48)])
    (hh : ∀ p : S8x2048.Idx, s.h p = hid (args m c) (p 0).val (p 1).val)
    (hy : ∀ p : S8x1024.Idx, s.y p = ysum (args m c) (128 * (t.val - 48)) (p 0).val (p 1).val)
    (i1 : ∀ a, (![e.val, 0] : Fin 2 → ℕ) a + S1x1024.size a ≤ S8x1024.size a)
    (i2 : ∀ a, (![e.val, 0, 0] : Fin 3 → ℕ) a + S1x1024x128.size a ≤ S8x1024x128.size a)
    (i3 : ∀ a, off a + S1x128.size a ≤ S8x2048.size a) (z : S1x1024.Idx) :
    outRow (window s.y ![e.val, 0] S1x1024.size i1) (window s.h off S1x128.size i3) (window (insAt m c t).w2 ![e.val, 0, 0] S1x1024x128.size i2) z
      = ysum (args m c) (128 * (t.val + 1 - 48)) (e.val + (z 0).val) (0 + (z 1).val) := by
  subst ho
  have hz0 : (z 0).val = 0 := by have : (z 0).val < 1 := (z 0).isLt; omega
  have hn : 128 * (t.val + 1 - 48) = 128 * (t.val - 48) + 128 := by omega
  rw [show e.val + (z 0).val = e.val by omega, Nat.zero_add, hn, ysum_add]
  unfold outRow
  refine congrArg₂ (· + ·) ?_ (Finset.sum_congr rfl fun k _ => congrArg₂ (· * ·) ?_ ?_)
  · exact window_at2 _ _ _ _ _ e.val (z 1).val _ (by show e.val + (z 0).val = _; omega) (by show 0 + (z 1).val = _; omega) fun p h0 h1 => by rw [hy, h0, h1]
  · exact window_at2 _ _ _ _ _ e.val (128 * (t.val - 48) + k.val) _ (by show e.val + (z 0).val = _; omega) rfl fun p h0 h1 => by rw [hh, h0, h1]
  · exact window_at3 _ _ _ _ _ e.val (z 1).val k.val _ (by show e.val + 0 = _; omega) (by show 0 + (z 1).val = _; omega) (by show 0 + k.val = _; omega)
      fun p h0 h1 h2 => by rw [w2_blk m c t h h', h0, h1, h2]

/-- After a point of the first half of the second pass its chunk of hidden entries is stored too. -/
theorem hidden_h (h : 32 ≤ t.val) (h' : t.val < 48) (hc : k0_cond3 (grid0.coords t) = 1#1 ∧ k0_cond4 (grid0.coords t) = 1#1)
    (hz : ∀ p : S1x8.Idx, s.z p = zsum (args m c) 8192 (p 1).val) (ha : ∀ p : S8x1024.Idx, s.a p = asum (args m c) 8192 (p 0).val (p 1).val)
    (hs : ∀ p : S8x2048.Idx, (p 1).val < 128 * (t.val - 32) → s.h p = hid (args m c) (p 0).val (p 1).val)
    (p : S8x2048.Idx) (hp : (p 1).val < 128 * (t.val + 1 - 32)) :
    (stepHidden (grid0.coords t) hc (insAt m c t) s).h p = hid (args m c) (p 0).val (p 1).val := by
  obtain ⟨o0, o1, o2, o3, o4, o5, o6, o7⟩ := offs_hid t h h'
  have row := hid_chunk m c t s h h'
  refine put_at _ _ _ _ (hid (args m c)) p _ _ 1 128 o7 rfl rfl (fun z => (congrFun (hid7_eq _ _ _ _) z).trans (row 7 _ o7 hz ha _ _ _ z)) fun n7 => ?_
  refine put_at _ _ _ _ (hid (args m c)) p _ _ 1 128 o6 rfl rfl (fun z => (congrFun (hid6_eq _ _ _ _) z).trans (row 6 _ o6 hz ha _ _ _ z)) fun n6 => ?_
  refine put_at _ _ _ _ (hid (args m c)) p _ _ 1 128 o5 rfl rfl (fun z => (congrFun (hid5_eq _ _ _ _) z).trans (row 5 _ o5 hz ha _ _ _ z)) fun n5 => ?_
  refine put_at _ _ _ _ (hid (args m c)) p _ _ 1 128 o4 rfl rfl (fun z => (congrFun (hid4_eq _ _ _ _) z).trans (row 4 _ o4 hz ha _ _ _ z)) fun n4 => ?_
  refine put_at _ _ _ _ (hid (args m c)) p _ _ 1 128 o3 rfl rfl (fun z => (congrFun (hid3_eq _ _ _ _) z).trans (row 3 _ o3 hz ha _ _ _ z)) fun n3 => ?_
  refine put_at _ _ _ _ (hid (args m c)) p _ _ 1 128 o2 rfl rfl (fun z => (congrFun (hid2_eq _ _ _ _) z).trans (row 2 _ o2 hz ha _ _ _ z)) fun n2 => ?_
  refine put_at _ _ _ _ (hid (args m c)) p _ _ 1 128 o1 rfl rfl (fun z => (congrFun (hid1_eq _ _ _ _) z).trans (row 1 _ o1 hz ha _ _ _ z)) fun n1 => ?_
  refine put_at _ _ _ _ (hid (args m c)) p _ _ 1 128 o0 rfl rfl (fun z => (congrFun (hid0_eq _ _ _ _) z).trans (row 0 _ o0 hz ha _ _ _ z)) fun n0 => ?_
  have : (p 0).val < 8 := (p 0).isLt
  exact hs p (by omega)

/-- After a point of the second half of the second pass the experts' outputs count its chunk of hidden entries too. -/
theorem out_y (h : 48 ≤ t.val) (h' : t.val < 64) (hc : k0_cond3 (grid0.coords t) = 1#1 ∧ k0_cond6 (grid0.coords t) = 1#1)
    (hh : ∀ p : S8x2048.Idx, s.h p = hid (args m c) (p 0).val (p 1).val)
    (hy : ∀ p : S8x1024.Idx, s.y p = ysum (args m c) (128 * (t.val - 48)) (p 0).val (p 1).val) (p : S8x1024.Idx) :
    (stepOut (grid0.coords t) hc (insAt m c t) s).y p = ysum (args m c) (128 * (t.val + 1 - 48)) (p 0).val (p 1).val := by
  obtain ⟨o0, o1, o2, o3, o4, o5, o6, o7⟩ := offs_out t h h'
  have row := out_chunk m c t s h h'
  refine put_at _ _ _ _ (ysum (args m c) (128 * (t.val + 1 - 48))) p _ _ 1 1024 rfl rfl rfl (fun z => (congrFun (out7_eq _ _ _) z).trans (row 7 _ o7 hh hy _ _ _ z)) fun n7 => ?_
  refine put_at _ _ _ _ (ysum (args m c) (128 * (t.val + 1 - 48))) p _ _ 1 1024 rfl rfl rfl (fun z => (congrFun (out6_eq _ _ _) z).trans (row 6 _ o6 hh hy _ _ _ z)) fun n6 => ?_
  refine put_at _ _ _ _ (ysum (args m c) (128 * (t.val + 1 - 48))) p _ _ 1 1024 rfl rfl rfl (fun z => (congrFun (out5_eq _ _ _) z).trans (row 5 _ o5 hh hy _ _ _ z)) fun n5 => ?_
  refine put_at _ _ _ _ (ysum (args m c) (128 * (t.val + 1 - 48))) p _ _ 1 1024 rfl rfl rfl (fun z => (congrFun (out4_eq _ _ _) z).trans (row 4 _ o4 hh hy _ _ _ z)) fun n4 => ?_
  refine put_at _ _ _ _ (ysum (args m c) (128 * (t.val + 1 - 48))) p _ _ 1 1024 rfl rfl rfl (fun z => (congrFun (out3_eq _ _ _) z).trans (row 3 _ o3 hh hy _ _ _ z)) fun n3 => ?_
  refine put_at _ _ _ _ (ysum (args m c) (128 * (t.val + 1 - 48))) p _ _ 1 1024 rfl rfl rfl (fun z => (congrFun (out2_eq _ _ _) z).trans (row 2 _ o2 hh hy _ _ _ z)) fun n2 => ?_
  refine put_at _ _ _ _ (ysum (args m c) (128 * (t.val + 1 - 48))) p _ _ 1 1024 rfl rfl rfl (fun z => (congrFun (out1_eq _ _ _) z).trans (row 1 _ o1 hh hy _ _ _ z)) fun n1 => ?_
  refine put_at _ _ _ _ (ysum (args m c) (128 * (t.val + 1 - 48))) p _ _ 1 1024 rfl rfl rfl (fun z => (congrFun (out0_eq _ _ _) z).trans (row 0 _ o0 hh hy _ _ _ z)) fun n0 => ?_
  have : (p 0).val < 8 := (p 0).isLt
  have : (p 1).val < 1024 := (p 1).isLt
  omega

/-- An output block is the layer's output for its tokens. -/
theorem outBlk_eq (h : 64 ≤ t.val) (hc : k0_cond7 (grid0.coords t) = 1#1)
    (hl : ∀ p : S8192x8.Idx, s.lg p = logit (args m c) (p 0).val (p 1).val) (hsh : ∀ p : S8192x1024.Idx, s.sh p = shared (args m c) (p 0).val (p 1).val)
    (hy : ∀ p : S8x1024.Idx, s.y p = ysum (args m c) 2048 (p 0).val (p 1).val) (j : S256x1024.Idx) :
    outBlk (grid0.coords t) hc s j = out (args m c) (256 * (t.val % 32) + (j 0).val) (j 1).val := by
  obtain ⟨-, -, o1, o2⟩ := offs t
  have el : ∀ e : Fin 8, window s.lg (k0_off19 (grid0.coords t)) S256x8.size (k0_off19_inb (grid0.coords t) hc) (ix2 (j 0) e)
      = logit (args m c) (256 * (t.val % 32) + (j 0).val) e.val := fun e =>
    window_at2 _ _ _ _ _ (256 * (t.val % 32) + (j 0).val) e.val _ (congrArg (· + (j 0).val) (congrFun o1 0)) ((congrArg (· + e.val) (congrFun o1 1)).trans (Nat.zero_add _)) fun p h0 h1 => by rw [hl, h0, h1]
  have es : window s.sh (k0_off20 (grid0.coords t)) S256x1024.size (k0_off20_inb (grid0.coords t) hc) j
      = shared (args m c) (256 * (t.val % 32) + (j 0).val) (j 1).val :=
    window_at2 _ _ _ _ _ (256 * (t.val % 32) + (j 0).val) (j 1).val _ (congrArg (· + (j 0).val) (congrFun o2 0)) ((congrArg (· + (j 1).val) (congrFun o2 1)).trans (Nat.zero_add _)) fun p h0 h1 => by rw [hsh, h0, h1]
  refine (pay11_apply _ _ _ j).trans ?_
  unfold out comb top
  refine congrArg₂ (· + ·) es (Finset.sum_congr rfl fun e _ => congrArg₂ (· * ·) ?_ (hy _))
  simp only [el]

end Cert.KernelIdeal.Hand

end
-- ==== Proof.KernelIdeal.Track.lean ====
/-
  The run of the program followed exactly: what the scratch buffers hold before each point is said by a family of
  conditions `Inv`, what a point of the last pass leaves in the output's buffer by `G`. Given that a point leads from
  one condition to the next, the output array ends as the array whose blocks `G` gives.
-/
module

public import proofs.«01_k».proof.Proof.KernelIdeal.Frames
public import Idealize.ShloMosaic.Lib.Pipeline.Value
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (Inv : Dev nD → ℕ → St F → Prop) (G : Dev nD → Fin cfg0.N → Vec F S256x1024 .f32)

/-- The proof data of the run: each input's buffer holds its block, the output's what `G` says, and the scratch
    buffers hold contents of which `Inv` is true. -/
def exact (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => G c t
  Φ t := iprop(∃ s : St F, ⌜Inv c t.val s⌝ ∗ ((owns (c : Thread nD τ) (Memref.whole cc0_scratch0) fullShare s.lg ∗ owns (c : Thread nD τ) (Memref.whole cc0_scratch1) fullShare s.z ∗ owns (c : Thread nD τ) (Memref.whole cc0_scratch2) fullShare s.a ∗ owns (c : Thread nD τ) (Memref.whole cc0_scratch3) fullShare s.h ∗ owns (c : Thread nD τ) (Memref.whole cc0_scratch4) fullShare s.y ∗ owns (c : Thread nD τ) (Memref.whole cc0_scratch5) fullShare s.sh) ∗ (∃ r, prngReg c r)))
  q _ := fullShare
  owed _ := 0

/-- Its arrays are the contents at the region's entry. -/
theorem exact_A (c : Dev nD) (w : Fin cfg0.W) : (exact m Inv G 0 c).A w = V m c (Pipeline.arrRef spec0 w) := by
  dsimp only [exact]

/-- Input 0's buffer holds its block before and after each point. -/
theorem exact_after0 (c : Dev nD) (t : Fin cfg0.N) : (exact m Inv G 0 c).after 0 t = iblk m c 0 t := by dsimp only [exact]
theorem exact_before0 (c : Dev nD) (t : Fin cfg0.N) (d) : (exact m Inv G 0 c).before 0 t d = iblk m c 0 t :=
  before0_0_of m (exact m Inv G 0 c) (exact_A m Inv G c 0) (exact_after0 m Inv G c) t d
theorem exact_leaves0 (c : Dev nD) (t : Fin cfg0.N) : (exact m Inv G 0 c).leavesExact 0 t = owns (c : Thread nD τ) (st0_0 t) fullShare (iblk m c 0 t) := by
  rw [← exact_after0 m Inv G c t]

/-- Input 1's buffer holds its block before and after each point. -/
theorem exact_after1 (c : Dev nD) (t : Fin cfg0.N) : (exact m Inv G 0 c).after 1 t = iblk m c 1 t := by dsimp only [exact]
theorem exact_before1 (c : Dev nD) (t : Fin cfg0.N) (d) : (exact m Inv G 0 c).before 1 t d = iblk m c 1 t :=
  before0_1_of m (exact m Inv G 0 c) (exact_A m Inv G c 1) (exact_after1 m Inv G c) t d
theorem exact_leaves1 (c : Dev nD) (t : Fin cfg0.N) : (exact m Inv G 0 c).leavesExact 1 t = owns (c : Thread nD τ) (st0_1 t) fullShare (iblk m c 1 t) := by
  rw [← exact_after1 m Inv G c t]

/-- Input 2's buffer holds its block before and after each point. -/
theorem exact_after2 (c : Dev nD) (t : Fin cfg0.N) : (exact m Inv G 0 c).after 2 t = iblk m c 2 t := by dsimp only [exact]
theorem exact_before2 (c : Dev nD) (t : Fin cfg0.N) (d) : (exact m Inv G 0 c).before 2 t d = iblk m c 2 t :=
  before0_2_of m (exact m Inv G 0 c) (exact_A m Inv G c 2) (exact_after2 m Inv G c) t d
theorem exact_leaves2 (c : Dev nD) (t : Fin cfg0.N) : (exact m Inv G 0 c).leavesExact 2 t = owns (c : Thread nD τ) (st0_2 t) fullShare (iblk m c 2 t) := by
  rw [← exact_after2 m Inv G c t]

/-- Input 3's buffer holds its block before and after each point. -/
theorem exact_after3 (c : Dev nD) (t : Fin cfg0.N) : (exact m Inv G 0 c).after 3 t = iblk m c 3 t := by dsimp only [exact]
theorem exact_before3 (c : Dev nD) (t : Fin cfg0.N) (d) : (exact m Inv G 0 c).before 3 t d = iblk m c 3 t :=
  before0_3_of m (exact m Inv G 0 c) (exact_A m Inv G c 3) (exact_after3 m Inv G c) t d
theorem exact_leaves3 (c : Dev nD) (t : Fin cfg0.N) : (exact m Inv G 0 c).leavesExact 3 t = owns (c : Thread nD τ) (st0_3 t) fullShare (iblk m c 3 t) := by
  rw [← exact_after3 m Inv G c t]

/-- Input 4's buffer holds its block before and after each point. -/
theorem exact_after4 (c : Dev nD) (t : Fin cfg0.N) : (exact m Inv G 0 c).after 4 t = iblk m c 4 t := by dsimp only [exact]
theorem exact_before4 (c : Dev nD) (t : Fin cfg0.N) (d) : (exact m Inv G 0 c).before 4 t d = iblk m c 4 t :=
  before0_4_of m (exact m Inv G 0 c) (exact_A m Inv G c 4) (exact_after4 m Inv G c) t d
theorem exact_leaves4 (c : Dev nD) (t : Fin cfg0.N) : (exact m Inv G 0 c).leavesExact 4 t = owns (c : Thread nD τ) (st0_4 t) fullShare (iblk m c 4 t) := by
  rw [← exact_after4 m Inv G c t]

/-- Input 5's buffer holds its block before and after each point. -/
theorem exact_after5 (c : Dev nD) (t : Fin cfg0.N) : (exact m Inv G 0 c).after 5 t = iblk m c 5 t := by dsimp only [exact]
theorem exact_before5 (c : Dev nD) (t : Fin cfg0.N) (d) : (exact m Inv G 0 c).before 5 t d = iblk m c 5 t :=
  before0_5_of m (exact m Inv G 0 c) (exact_A m Inv G c 5) (exact_after5 m Inv G c) t d
theorem exact_leaves5 (c : Dev nD) (t : Fin cfg0.N) : (exact m Inv G 0 c).leavesExact 5 t = owns (c : Thread nD τ) (st0_5 t) fullShare (iblk m c 5 t) := by
  rw [← exact_after5 m Inv G c t]

/-- Input 6's buffer holds its block before and after each point. -/
theorem exact_after6 (c : Dev nD) (t : Fin cfg0.N) : (exact m Inv G 0 c).after 6 t = iblk m c 6 t := by dsimp only [exact]
theorem exact_before6 (c : Dev nD) (t : Fin cfg0.N) (d) : (exact m Inv G 0 c).before 6 t d = iblk m c 6 t :=
  before0_6_of m (exact m Inv G 0 c) (exact_A m Inv G c 6) (exact_after6 m Inv G c) t d
theorem exact_leaves6 (c : Dev nD) (t : Fin cfg0.N) : (exact m Inv G 0 c).leavesExact 6 t = owns (c : Thread nD τ) (st0_6 t) fullShare (iblk m c 6 t) := by
  rw [← exact_after6 m Inv G c t]

/-- Input 7's buffer holds its block before and after each point. -/
theorem exact_after7 (c : Dev nD) (t : Fin cfg0.N) : (exact m Inv G 0 c).after 7 t = iblk m c 7 t := by dsimp only [exact]
theorem exact_before7 (c : Dev nD) (t : Fin cfg0.N) (d) : (exact m Inv G 0 c).before 7 t d = iblk m c 7 t :=
  before0_7_of m (exact m Inv G 0 c) (exact_A m Inv G c 7) (exact_after7 m Inv G c) t d
theorem exact_leaves7 (c : Dev nD) (t : Fin cfg0.N) : (exact m Inv G 0 c).leavesExact 7 t = owns (c : Thread nD τ) (st0_7 t) fullShare (iblk m c 7 t) := by
  rw [← exact_after7 m Inv G c t]

/-- Input 8's buffer holds its block before and after each point. -/
theorem exact_after8 (c : Dev nD) (t : Fin cfg0.N) : (exact m Inv G 0 c).after 8 t = iblk m c 8 t := by dsimp only [exact]
theorem exact_before8 (c : Dev nD) (t : Fin cfg0.N) (d) : (exact m Inv G 0 c).before 8 t d = iblk m c 8 t :=
  before0_8_of m (exact m Inv G 0 c) (exact_A m Inv G c 8) (exact_after8 m Inv G c) t d
theorem exact_leaves8 (c : Dev nD) (t : Fin cfg0.N) : (exact m Inv G 0 c).leavesExact 8 t = owns (c : Thread nD τ) (st0_8 t) fullShare (iblk m c 8 t) := by
  rw [← exact_after8 m Inv G c t]

/-- Input 9's buffer holds its block before and after each point. -/
theorem exact_after9 (c : Dev nD) (t : Fin cfg0.N) : (exact m Inv G 0 c).after 9 t = iblk m c 9 t := by dsimp only [exact]
theorem exact_before9 (c : Dev nD) (t : Fin cfg0.N) (d) : (exact m Inv G 0 c).before 9 t d = iblk m c 9 t :=
  before0_9_of m (exact m Inv G 0 c) (exact_A m Inv G c 9) (exact_after9 m Inv G c) t d
theorem exact_leaves9 (c : Dev nD) (t : Fin cfg0.N) : (exact m Inv G 0 c).leavesExact 9 t = owns (c : Thread nD τ) (st0_9 t) fullShare (iblk m c 9 t) := by
  rw [← exact_after9 m Inv G c t]

/-- The output's buffer holds what `G` says. -/
theorem exact_after10 (c : Dev nD) (t : Fin cfg0.N) : (exact m Inv G 0 c).after 10 t = G c t := by dsimp only [exact]

/-- The output's block is written back at the points of the last pass and at no other. -/
theorem flush_out : ∀ t : Fin cfg0.N, (cfg0.win 10).flush t = decide (64 ≤ t.val) :=
  fun t => (Pipeline.Window.flush_eq_flushF win0_10 t).trans ((by decide +kernel : ∀ t : Fin grid0.N, win0_10.flushF t = decide (64 ≤ t.val)) t)

/-- The output's buffer is not written before the last pass, -/
theorem idle_out (t : Fin cfg0.N) (h : t.val < 64) : cfg0.idle 10 (cfg0.grid.coords t) = true := by
  show (!(k0_cond7 (grid0.coords t) == 1#1)) = true
  have : k0_cond7 (grid0.coords t) ≠ 1#1 := fun e => by have := (c7 t).mp e; omega
  simp [this]

/-- and is in it. -/
theorem busy_out (t : Fin cfg0.N) (h : 64 ≤ t.val) : cfg0.idle 10 (cfg0.grid.coords t) = false := by
  show (!(k0_cond7 (grid0.coords t) == 1#1)) = false
  have : k0_cond7 (grid0.coords t) = 1#1 := (c7 t).mpr h
  simp [this]

/-- Before the last pass the output's buffer is given back as it was; -/
theorem exact_leaves_early (c : Dev nD) (t : Fin cfg0.N) (h : t.val < 64) :
    (exact m Inv G 0 c).leavesExact 10 t = iprop(∃ d, owns (c : Thread nD τ) (st0_10 t) fullShare ((exact m Inv G 0 c).before 10 t d)) :=
  (exact m Inv G 0 c).leavesExact_idle 10 t (idle_out t h) ((flush_out t).trans (decide_eq_false (by omega)))

/-- in it, holding what `G` says. -/
theorem exact_leaves_late (c : Dev nD) (t : Fin cfg0.N) (h : 64 ≤ t.val) :
    (exact m Inv G 0 c).leavesExact 10 t = owns (c : Thread nD τ) (st0_10 t) fullShare (G c t) := by
  unfold Dat.leavesExact
  rw [busy_out t h]
  rw [← exact_after10 m Inv G c t]

/-- What the body is given at point `t`, -/
def exactPre (c : Dev nD) (t : Fin cfg0.N) : sProp 𝕄 :=
  iprop((exact m Inv G 0 c).Φ t.castSucc ∗ (exact m Inv G 0 c).owesAt () t.castSucc
    ∗ (∃ d, owns (c : Thread nD τ) (st0_0 t) fullShare ((exact m Inv G 0 c).before 0 t d))
    ∗ (∃ d, owns (c : Thread nD τ) (st0_1 t) fullShare ((exact m Inv G 0 c).before 1 t d))
    ∗ (∃ d, owns (c : Thread nD τ) (st0_2 t) fullShare ((exact m Inv G 0 c).before 2 t d))
    ∗ (∃ d, owns (c : Thread nD τ) (st0_3 t) fullShare ((exact m Inv G 0 c).before 3 t d))
    ∗ (∃ d, owns (c : Thread nD τ) (st0_4 t) fullShare ((exact m Inv G 0 c).before 4 t d))
    ∗ (∃ d, owns (c : Thread nD τ) (st0_5 t) fullShare ((exact m Inv G 0 c).before 5 t d))
    ∗ (∃ d, owns (c : Thread nD τ) (st0_6 t) fullShare ((exact m Inv G 0 c).before 6 t d))
    ∗ (∃ d, owns (c : Thread nD τ) (st0_7 t) fullShare ((exact m Inv G 0 c).before 7 t d))
    ∗ (∃ d, owns (c : Thread nD τ) (st0_8 t) fullShare ((exact m Inv G 0 c).before 8 t d))
    ∗ (∃ d, owns (c : Thread nD τ) (st0_9 t) fullShare ((exact m Inv G 0 c).before 9 t d))
    ∗ (∃ d, owns (c : Thread nD τ) (st0_10 t) fullShare ((exact m Inv G 0 c).before 10 t d)))

/-- and what it gives back. -/
def exactPost (c : Dev nD) (t : Fin cfg0.N) : sProp 𝕄 :=
  iprop((exact m Inv G 0 c).Φ t.succ ∗ (exact m Inv G 0 c).owesAt () t.succ
    ∗ (exact m Inv G 0 c).leavesExact 0 t
    ∗ (exact m Inv G 0 c).leavesExact 1 t
    ∗ (exact m Inv G 0 c).leavesExact 2 t
    ∗ (exact m Inv G 0 c).leavesExact 3 t
    ∗ (exact m Inv G 0 c).leavesExact 4 t
    ∗ (exact m Inv G 0 c).leavesExact 5 t
    ∗ (exact m Inv G 0 c).leavesExact 6 t
    ∗ (exact m Inv G 0 c).leavesExact 7 t
    ∗ (exact m Inv G 0 c).leavesExact 8 t
    ∗ (exact m Inv G 0 c).leavesExact 9 t
    ∗ (exact m Inv G 0 c).leavesExact 10 t)

set_option maxHeartbeats 4000000 in
/-- The body at any point leads from one condition to the next and leaves in the output's buffer what `G` says. -/
theorem exact_body (hstep : ∀ c t s, Inv c t.val s → Inv c (t.val + 1) (next t (insAt m c t) s))
    (hlast : ∀ c (t : Fin cfg0.N) o s, 64 ≤ t.val → Inv c t.val s → nextOut t o s = G c t) (c : Dev nD) (t : Fin cfg0.N) :
    exactPre m Inv G c t ⊢ wp frame (wpE (defs₀ (F := F)) Variants.none c none) Set.univ (bodyAt0 t) (fun _ => exactPost m Inv G c t) := by
  unfold exactPre exactPost
  simp only [exact_before0, exact_before1, exact_before2, exact_before3, exact_before4, exact_before5, exact_before6, exact_before7, exact_before8, exact_before9, exact_leaves0, exact_leaves1, exact_leaves2, exact_leaves3, exact_leaves4, exact_leaves5, exact_leaves6, exact_leaves7, exact_leaves8, exact_leaves9]
  rw [show (exact m Inv G 0 c).owesAt () t.succ = (exact m Inv G 0 c).owesAt () t.castSucc from rfl,
    show (exact m Inv G 0 c).Φ t.succ = iprop(∃ s : St F, ⌜Inv c (t.val + 1) s⌝ ∗ ((owns (c : Thread nD τ) (Memref.whole cc0_scratch0) fullShare s.lg ∗ owns (c : Thread nD τ) (Memref.whole cc0_scratch1) fullShare s.z ∗ owns (c : Thread nD τ) (Memref.whole cc0_scratch2) fullShare s.a ∗ owns (c : Thread nD τ) (Memref.whole cc0_scratch3) fullShare s.h ∗ owns (c : Thread nD τ) (Memref.whole cc0_scratch4) fullShare s.y ∗ owns (c : Thread nD τ) (Memref.whole cc0_scratch5) fullShare s.sh) ∗ (∃ r, prngReg c r))) from rfl,
    show (exact m Inv G 0 c).Φ t.castSucc = iprop(∃ s : St F, ⌜Inv c t.val s⌝ ∗ ((owns (c : Thread nD τ) (Memref.whole cc0_scratch0) fullShare s.lg ∗ owns (c : Thread nD τ) (Memref.whole cc0_scratch1) fullShare s.z ∗ owns (c : Thread nD τ) (Memref.whole cc0_scratch2) fullShare s.a ∗ owns (c : Thread nD τ) (Memref.whole cc0_scratch3) fullShare s.h ∗ owns (c : Thread nD τ) (Memref.whole cc0_scratch4) fullShare s.y ∗ owns (c : Thread nD τ) (Memref.whole cc0_scratch5) fullShare s.sh) ∗ (∃ r, prngReg c r))) from rfl]
  iintro ⟨⟨%s, %hs, ⟨⟨G0, G1, G2, G3, G4, G5⟩, Hg⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runPoint c t (insAt m c t) ((exact m Inv G 0 c).before 10 t d10) s _ _ _ _ _ _ _ _ _ _ _ _ _ _ _ _ _ _ _ _ _ _ _ _ _ _ _ _ _ _ _ _ _ _ Set.univ _)
  unfold held
  isplitl [H0 H1 H2 H3 H4 H5 H6 H7 H8 H9 H10 G0 G1 G2 G3 G4 G5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [G0]; · iexact G0
    isplitl [G1]; · iexact G1
    isplitl [G2]; · iexact G2
    isplitl [G3]; · iexact G3
    isplitl [G4]; · iexact G4
    iexact G5
  iintro ⟨H0, H1, H2, H3, H4, H5, H6, H7, H8, H9, H10, G0, G1, G2, G3, G4, G5⟩
  isplitl [G0 G1 G2 G3 G4 G5 Hg]
  · iexists (next t (insAt m c t) s)
    isplitr
    · ipureintro; exact hstep c t s hs
    isplitl [G0 G1 G2 G3 G4 G5]
    · isplitl [G0]; · iexact G0
      isplitl [G1]; · iexact G1
      isplitl [G2]; · iexact G2
      isplitl [G3]; · iexact G3
      isplitl [G4]; · iexact G4
      iexact G5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  by_cases h7 : 64 ≤ t.val
  · rw [exact_leaves_late m Inv G c t h7, ← hlast c t ((exact m Inv G 0 c).before 10 t d10) s h7 hs]
    iexact H10
  · rw [exact_leaves_early m Inv G c t (by omega), show nextOut t ((exact m Inv G 0 c).before 10 t d10) s = (exact m Inv G 0 c).before 10 t d10 from dif_neg h7]
    iexists d10
    iexact H10

/-- The pipeline's obligation on the body, at every point. -/
theorem exact_obligation (hstep : ∀ c t s, Inv c t.val s → Inv c (t.val + 1) (next t (insAt m c t) s))
    (hlast : ∀ c (t : Fin cfg0.N) o s, 64 ≤ t.val → Inv c t.val s → nextOut t o s = G c t) (c : Dev nD) :
    BodyObligation (exact m Inv G 0 c) (defs₀ (F := F)) Variants.none () Set.univ (fun _ => false) := fun t => by
  rw [bigSep_W0, bigSep_W0, defs_row]
  exact triple_restated (exact_body m Inv G hstep hlast c t) rfl .rfl fun _ => .rfl

set_option backward.isDefEq.respectTransparency.types false in
/-- Every execution ends with each array as the points wrote it back and every semaphore at zero. -/
theorem exact_run (h0 : ∀ c s, Inv c 0 s) (hstep : ∀ c t s, Inv c t.val s → Inv c (t.val + 1) (next t (insAt m c t) s))
    (hlast : ∀ c (t : Fin cfg0.N) o s, 64 ≤ t.val → Inv c t.val s → nextOut t o s = G c t) :
    θ_run defs (onTc (τ := τ) (main (F := F))) (s₀ m ρ) (fun r => Pipeline.FramePost cfgs (exact m Inv G) 0 (V m) r ∧ r.2.sem = fun _ => 0) :=
  Pipeline.θ_run_frame_track cfgs (exact m Inv G) (0 : Fin 1) launch0 defs₀ Variants.none m ρ main
    (hbody := fun c => (exact_obligation m Inv G hstep hlast c).loose) (hshare := fun c => (exact m Inv G 0 c).share_full fun _ => rfl)
    (howed := fun _ _ => rfl) (V := V m) (hmain := hmain m Variants.none) (hA := exact_A m Inv G)
    (hin := fun c => by
      rw [phi_eq, show (exact m Inv G 0 c).Φ 0 = iprop(∃ s : St F, ⌜Inv c 0 s⌝ ∗ ((owns (c : Thread nD τ) (Memref.whole cc0_scratch0) fullShare s.lg ∗ owns (c : Thread nD τ) (Memref.whole cc0_scratch1) fullShare s.z ∗ owns (c : Thread nD τ) (Memref.whole cc0_scratch2) fullShare s.a ∗ owns (c : Thread nD τ) (Memref.whole cc0_scratch3) fullShare s.h ∗ owns (c : Thread nD τ) (Memref.whole cc0_scratch4) fullShare s.y ∗ owns (c : Thread nD τ) (Memref.whole cc0_scratch5) fullShare s.sh) ∗ (∃ r, prngReg c r))) from rfl]
      iintro ⟨⟨⟨%g0, G0⟩, ⟨%g1, G1⟩, ⟨%g2, G2⟩, ⟨%g3, G3⟩, ⟨%g4, G4⟩, ⟨%g5, G5⟩⟩, Hg⟩
      iexists (⟨g0, g1, g2, g3, g4, g5⟩ : St F)
      isplitr
      · ipureintro; exact h0 c _
      isplitl [G0 G1 G2 G3 G4 G5]
      · isplitl [G0]; · iexact G0
        isplitl [G1]; · iexact G1
        isplitl [G2]; · iexact G2
        isplitl [G3]; · iexact G3
        isplitl [G4]; · iexact G4
        iexact G5
      iexact Hg)
    (hout := fun c => by
      rw [phi_eq, show (exact m Inv G 0 c).Φ (Fin.last _) = iprop(∃ s : St F, ⌜Inv c cfg0.N s⌝ ∗ ((owns (c : Thread nD τ) (Memref.whole cc0_scratch0) fullShare s.lg ∗ owns (c : Thread nD τ) (Memref.whole cc0_scratch1) fullShare s.z ∗ owns (c : Thread nD τ) (Memref.whole cc0_scratch2) fullShare s.a ∗ owns (c : Thread nD τ) (Memref.whole cc0_scratch3) fullShare s.h ∗ owns (c : Thread nD τ) (Memref.whole cc0_scratch4) fullShare s.y ∗ owns (c : Thread nD τ) (Memref.whole cc0_scratch5) fullShare s.sh) ∗ (∃ r, prngReg c r))) from rfl]
      iintro ⟨%s, %hs, ⟨⟨G0, G1, G2, G3, G4, G5⟩, Hg⟩⟩
      isplitl [G0 G1 G2 G3 G4 G5]
      · isplitl [G0]; · iexists _; iexact G0
        isplitl [G1]; · iexists _; iexact G1
        isplitl [G2]; · iexists _; iexact G2
        isplitl [G3]; · iexists _; iexact G3
        isplitl [G4]; · iexists _; iexact G4
        iexists _; iexact G5
      iexact Hg)
    (Q' := _) (hQ' := fun _ h => h)

end Cert.KernelIdeal.Hand

end
-- ==== Proof.KernelIdeal.Result.lean ====
module

public import proofs.«01_k».proof.Proof.KernelIdeal.Chunk
public import proofs.«01_k».proof.Proof.KernelIdeal.Track

@[expose] public section

set_option maxRecDepth 16384

noncomputable section

/-!
# What the kernel computes

The scratch buffers hold the layer's partial sums at every point, so the result array ends as the layer's output.
-/

namespace Cert.KernelIdeal.Hand

open Cert.KernelIdeal Cert.KernelIdeal.Gen Cert.Moe
open Idealize.ShloMosaic Idealize.ShloMosaic.TcCoe Idealize.SL.Sem

variable (m : (ℓ : Loc nD τ sig) → Buf (Elt Ideal) ℓ) (ρ : Dev nD → PrngReg)

/-- What the scratch buffers hold before point `t`: the scores, the normalizers and the weighted sums of the tokens seen, the hidden entries and the shared rows stored so far, the experts' outputs over the hidden entries used so far. -/
structure Inv (c : Dev nD) (t : ℕ) (s : St Ideal) : Prop where
  lg : ∀ p : S8192x8.Idx, (p 0).val < 256 * min t 32 → s.lg p = logit (args m c) (p 0).val (p 1).val
  z : 0 < t → ∀ p : S1x8.Idx, s.z p = zsum (args m c) (256 * min t 32) (p 1).val
  a : 0 < t → ∀ p : S8x1024.Idx, s.a p = asum (args m c) (256 * min t 32) (p 0).val (p 1).val
  h : ∀ p : S8x2048.Idx, (p 1).val < 128 * (min t 48 - 32) → s.h p = hid (args m c) (p 0).val (p 1).val
  y : 48 < t → ∀ p : S8x1024.Idx, s.y p = ysum (args m c) (128 * (min t 64 - 48)) (p 0).val (p 1).val
  sh : ∀ p : S8192x1024.Idx, (p 0).val < 256 * (min t 64 - 32) → s.sh p = shared (args m c) (p 0).val (p 1).val

/-- Nothing is asked before the first point. -/
theorem inv_zero (c : Dev nD) (s : St Ideal) : Inv m c 0 s where
  lg p hp := by omega
  z h := by omega
  a h := by omega
  h p hp := by omega
  y h := by omega
  sh p hp := by omega

/-- Every point keeps it. -/
theorem inv_next (c : Dev nD) (t : Fin cfg0.N) (s : St Ideal) (hI : Inv m c t.val s) : Inv m c (t.val + 1) (next t (insAt m c t) s) := by
  unfold next
  by_cases h1 : t.val < 32
  · rw [dif_pos h1]
    have e0 : min t.val 32 = t.val := by omega
    have e1 : min (t.val + 1) 32 = t.val + 1 := by omega
    have key : ∀ s' : St Ideal, (∀ p : S8192x8.Idx, (p 0).val < 256 * t.val → s'.lg p = logit (args m c) (p 0).val (p 1).val) →
        (∀ p : S1x8.Idx, s'.z p = zsum (args m c) (256 * t.val) (p 1).val) →
        (∀ p : S8x1024.Idx, s'.a p = asum (args m c) (256 * t.val) (p 0).val (p 1).val) →
        Inv m c (t.val + 1) (stepTok (grid0.coords t) (insAt m c t) s') := fun s' hl hz ha =>
      { lg := fun p hp => tok_lg m c t s' h1 hl p (by omega)
        z := fun _ p => by rw [e1]; exact tok_z m c t s' h1 hz p
        a := fun _ p => by rw [e1]; exact tok_a m c t s' h1 ha p
        h := fun p hp => by omega
        y := fun h => by omega
        sh := fun p hp => by omega }
    by_cases h0 : t.val = 0
    · rw [if_pos h0]
      refine key (stepZero s) (fun p hp => by omega) (fun p => ?_) fun p => ?_
      · rw [h0, Nat.mul_zero, zsum_zero]
        exact pay1_apply p
      · rw [h0, Nat.mul_zero, asum_zero]
        exact pay2_apply p
    · rw [if_neg h0]
      exact key s (fun p hp => hI.lg p (by omega)) (fun p => by rw [hI.z (by omega), e0]) fun p => by rw [hI.a (by omega), e0]
  · rw [dif_neg h1]
    have e32 : min t.val 32 = 32 := by omega
    have e32' : min (t.val + 1) 32 = 32 := by omega
    have hlg : ∀ p : S8192x8.Idx, (p 0).val < 256 * min (t.val + 1) 32 → s.lg p = logit (args m c) (p 0).val (p 1).val := fun p hp => hI.lg p (by omega)
    have hz : ∀ p : S1x8.Idx, s.z p = zsum (args m c) (256 * 32) (p 1).val := fun p => by rw [hI.z (by omega), e32]
    have ha : ∀ p : S8x1024.Idx, s.a p = asum (args m c) (256 * 32) (p 0).val (p 1).val := fun p => by rw [hI.a (by omega), e32]
    by_cases h3 : t.val < 64
    · rw [dif_pos h3]
      have hsh : ∀ p : S8192x1024.Idx, (p 0).val < 256 * (min (t.val + 1) 64 - 32) →
          (stepShared (grid0.coords t) (insAt m c t) s).sh p = shared (args m c) (p 0).val (p 1).val := fun p hp =>
        shared_sh m c t s (by omega) h3 (fun p hp => hI.sh p (by omega)) p (by omega)
      by_cases h4 : t.val < 48
      · rw [dif_pos h4]
        exact
          { lg := hlg
            z := fun _ p => by rw [e32']; exact hz p
            a := fun _ p => by rw [e32']; exact ha p
            h := fun p hp => hidden_h m c t (stepShared (grid0.coords t) (insAt m c t) s) (by omega) h4 _ hz ha (fun p hp => hI.h p (by omega)) p (by omega)
            y := fun h => by omega
            sh := hsh }
      · rw [dif_neg h4]
        have e64 : min t.val 64 = t.val := by omega
        have e64' : min (t.val + 1) 64 = t.val + 1 := by omega
        have hh : ∀ p : S8x2048.Idx, s.h p = hid (args m c) (p 0).val (p 1).val := fun p => hI.h p (by have : (p 1).val < 2048 := (p 1).isLt; omega)
        have key : ∀ s' : St Ideal, s'.lg = s.lg → s'.z = s.z → s'.a = s.a → s'.h = s.h → s'.sh = (stepShared (grid0.coords t) (insAt m c t) s).sh →
            (∀ p : S8x1024.Idx, s'.y p = ysum (args m c) (128 * (t.val - 48)) (p 0).val (p 1).val) →
            ∀ hc, Inv m c (t.val + 1) (stepOut (grid0.coords t) hc (insAt m c t) s') := fun s' el ez ea eh es hy hc =>
          { lg := fun p hp => (congrFun el p).trans (hlg p hp)
            z := fun _ p => by rw [e32']; exact (congrFun ez p).trans (hz p)
            a := fun _ p => by rw [e32']; exact (congrFun ea p).trans (ha p)
            h := fun p hp => (congrFun eh p).trans (hh p)
            y := fun _ p => by rw [e64']; exact out_y m c t s' (by omega) h3 hc (fun p => (congrFun eh p).trans (hh p)) hy p
            sh := fun p hp => (congrFun es p).trans (hsh p hp) }
        by_cases h48 : t.val = 48
        · rw [if_pos h48]
          refine key (stepBias (insAt m c t) (stepShared (grid0.coords t) (insAt m c t) s)) rfl rfl rfl rfl rfl (fun p => ?_) _
          rw [h48, Nat.sub_self, Nat.mul_zero, ysum_zero]
          exact (pay10_apply _ p).trans (b2_blk m c t p)
        · rw [if_neg h48]
          exact key (stepShared (grid0.coords t) (insAt m c t) s) rfl rfl rfl rfl rfl (fun p => by rw [← e64]; exact hI.y (by omega) p) _
    · rw [dif_neg h3]
      exact
        { lg := hlg
          z := fun _ p => by rw [e32']; exact hz p
          a := fun _ p => by rw [e32']; exact ha p
          h := fun p hp => hI.h p (by omega)
          y := fun _ p => by rw [hI.y (by omega), show min t.val 64 = min (t.val + 1) 64 by omega]
          sh := fun p hp => hI.sh p (by omega) }

/-- The layer's output as the result array. -/
def result (c : Dev nD) : Vec Ideal S8192x1024 .f32 := fun p => out (args m c) (p 0).val (p 1).val

/-- The block the output's buffer is to hold after point `t`. -/
def resultBlk (c : Dev nD) (t : Fin cfg0.N) : Vec Ideal S256x1024 .f32 := fun j => out (args m c) (256 * (t.val % 32) + (j 0).val) (j 1).val

/-- Every point of the last pass leaves its block of the layer's output. -/
theorem last_out (c : Dev nD) (t : Fin cfg0.N) (o : Vec Ideal S256x1024 .f32) (s : St Ideal) (h : 64 ≤ t.val) (hI : Inv m c t.val s) :
    nextOut t o s = resultBlk m c t := by
  unfold nextOut
  rw [dif_pos h]
  funext j
  exact outBlk_eq m c t s h _ (fun p => hI.lg p (by have : (p 0).val < 8192 := (p 0).isLt; omega))
    (fun p => hI.sh p (by have : (p 0).val < 8192 := (p 0).isLt; omega))
    (fun p => by rw [hI.y (by omega), show 128 * (min t.val 64 - 48) = 2048 by omega]) j

/-- The result array after the run is the layer's output. -/
theorem arr_out (c : Dev nD) : (exact m (Inv m) (resultBlk m) 0 c).arrAt 10 cfg0.N = result m c := by
  refine (exact m (Inv m) (resultBlk m) 0 c).arrAt_eq_of_covers 10 (result m c) (by decide +kernel) fun t hf y => ?_
  have h64 : 64 ≤ t.val := by rw [flush_out] at hf; simpa using hf
  have ht : t.val < 96 := Nat.lt_of_lt_of_eq t.isLt N_0
  blk_simp
  rw [exact_after10]
  unfold result resultBlk
  blk_simp [stand t]
  rw [show 256 * (t.val % 32) = (t.val - 64) * 256 by omega]

/-- The kernel's run ends with the layer's output in the result array and its arguments as they were. -/
theorem run_result : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1 c).1 10).trans (arr_out m c),
    ((h.1 c).1 0).trans (((exact m (Inv m) (resultBlk m) 0 c).arrAt_in 0 rfl _).trans ((exact_A m (Inv m) (resultBlk m) c 0).trans (V_main_arg0 m c))),
    ((h.1 c).1 1).trans (((exact m (Inv m) (resultBlk m) 0 c).arrAt_in 1 rfl _).trans ((exact_A m (Inv m) (resultBlk m) c 1).trans (V_main_arg1 m c))),
    ((h.1 c).1 2).trans (((exact m (Inv m) (resultBlk m) 0 c).arrAt_in 2 rfl _).trans ((exact_A m (Inv m) (resultBlk m) c 2).trans (V_main_arg2 m c))),
    ((h.1 c).1 3).trans (((exact m (Inv m) (resultBlk m) 0 c).arrAt_in 3 rfl _).trans ((exact_A m (Inv m) (resultBlk m) c 3).trans (V_main_arg3 m c))),
    ((h.1 c).1 4).trans (((exact m (Inv m) (resultBlk m) 0 c).arrAt_in 4 rfl _).trans ((exact_A m (Inv m) (resultBlk m) c 4).trans (V_main_arg4 m c))),
    ((h.1 c).1 5).trans (((exact m (Inv m) (resultBlk m) 0 c).arrAt_in 5 rfl _).trans ((exact_A m (Inv m) (resultBlk m) c 5).trans (V_main_arg5 m c))),
    ((h.1 c).1 6).trans (((exact m (Inv m) (resultBlk m) 0 c).arrAt_in 6 rfl _).trans ((exact_A m (Inv m) (resultBlk m) c 6).trans (V_main_arg6 m c))),
    ((h.1 c).2 main_arg7 (Pipeline.mem_restRefs_of main_arg7 (by decide) (by decide))).trans (V_main_arg7 m c),
    ((h.1 c).1 8).trans (((exact m (Inv m) (resultBlk m) 0 c).arrAt_in 8 rfl _).trans ((exact_A m (Inv m) (resultBlk m) c 8).trans (V_main_arg8 m c))),
    ((h.1 c).2 main_arg9 (Pipeline.mem_restRefs_of main_arg9 (by decide) (by decide))).trans (V_main_arg9 m c)⟩)
    (exact_run m ρ (Inv m) (resultBlk m) (inv_zero m) (inv_next m) (last_out m))

end Cert.KernelIdeal.Hand

end
-- ==== Proof.Finite.lean ====
module

public import proofs.«01_k».proof.Defs
public import proofs.«01_k».proof.Proof.Spec
public import proofs.«01_k».proof.Proof.Gen.Pre_router_finite
public import Idealize.ShloMosaic.Lib.ReduceAll

@[expose] public section

set_option maxRecDepth 16384

noncomputable section

/-!
# The precondition

Where it holds, every token and every router weight is a real number.
-/

namespace Cert.Moe

open Idealize.ShloMosaic Cert.Pre_router_finite

attribute [local instance] Cert.Pre_router_finite.Gen.facts

/-- The bits of the infinite float are the greatest extended real. -/
theorem top_bits : Ideal.ofBits FTy.f32 2139095040#32 = ⊤ := by
  simp [Ideal.ofBits, Ideal.ieee, -EReal.coe_mul]

/-- A value whose magnitude is below infinity is a real number. -/
theorem real_of_lt (x : EReal) (h : Ideal.cmp .olt (max x (-x)) (Ideal.ofBits FTy.f32 2139095040#32) = 1#1) :
    ∃ u : ℝ, x = u := by
  rw [top_bits] at h
  have hlt : max x (-x) < ⊤ := by
    by_contra hc
    simp [Ideal.cmp, hc] at h
  obtain ⟨h1, h2⟩ := max_lt_iff.mp hlt
  refine ⟨x.toReal, (EReal.coe_toReal h1.ne fun e => ?_).symm⟩
  rw [e, EReal.neg_bot] at h2
  exact h2.ne rfl

/-- The precondition makes every token and every router weight real. -/
theorem finite_of_pre (x0 : FVec Ideal S8192x1024 .f32) (x1 : FVec Ideal S8x1024 .f32) (x2 : FVec Ideal S8x2048x1024 .f32) (x3 : FVec Ideal S8x2048 .f32)
    (x4 : FVec Ideal S8x1024x2048 .f32) (x5 : FVec Ideal S8x1024 .f32) (x6 : FVec Ideal S2048x1024 .f32) (x7 : FVec Ideal S2048 .f32)
    (x8 : FVec Ideal S1024x2048 .f32) (x9 : FVec Ideal S1024 .f32) (h : fn (F := Ideal) x0 x1 x2 x3 x4 x5 x6 x7 x8 x9 = fun _ => 1#1) :
    (∀ i, ∃ u : ℝ, x0 i = u) ∧ ∀ i, ∃ u : ℝ, x1 i = u := by
  have h0 := congrFun h (fun a => a.elim0)
  obtain ⟨ha, hb⟩ := IntOp.andi_eq_one.1 h0
  haveI : Subsingleton S_.Idx := ⟨fun a b => funext fun k => k.elim0⟩
  exact ⟨fun i => real_of_lt _ (Host.reduce_andi_all _ _ _ _ _ ha i), fun i => real_of_lt _ (Host.reduce_andi_all _ _ _ _ _ hb i)⟩

/-- A matrix of real numbers reads as real numbers. -/
theorem at2_real {n0 n1 : ℕ} (A : (⟨2, ![n0, n1]⟩ : Shape).Idx → EReal) (h : ∀ i, ∃ u : ℝ, A i = u) (i j : ℕ) : ∃ u : ℝ, at2 A i j = u := by
  unfold at2
  split_ifs with hc
  · exact h _
  · exact ⟨0, rfl⟩

end Cert.Moe

end
-- ==== Proof.lean ====
module

public import proofs.«01_k».proof.Defs
public import proofs.«01_k».proof.Proof.Gen.ReferenceIdeal
public import proofs.«01_k».proof.Proof.Gen.Pre_router_finite
public import proofs.«01_k».proof.Proof.ReferenceIdeal.Values
public import proofs.«01_k».proof.Proof.Kernel.Frames
public import proofs.«01_k».proof.Proof.KernelIdeal.Frames
public import proofs.«01_k».proof.Proof.KernelIdeal.Result
public import proofs.«01_k».proof.Proof.Finite
public import Idealize.ShloMosaic.Lib.Claim
public import Idealize.ShloMosaic.Lib.Quiescent

@[expose] public section

noncomputable section

namespace Cert.Proof

open Idealize.ShloMosaic Idealize.SL.Sem Cert.Kernel

/-- The reference program runs, its ten arguments end as they were, and every semaphore reads zero: it declares none. -/
theorem reference_frame : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- From the same arguments, the tokens and the router's weights finite, the kernel and the reference end with the same result: the layer's output. -/
theorem same_result : Cert.algebraic_KernelIdeal_ReferenceIdeal_pre_router_finite (hKernelIdeal := Cert.KernelIdeal.Gen.facts)
    (hReferenceIdeal := Cert.ReferenceIdeal.Gen.facts) (hPre_router_finite := Cert.Pre_router_finite.Gen.facts) := by
  intro m g m' g' hpre hargs
  refine ⟨fun c => Cert.KernelIdeal.Hand.result m c, Cert.KernelIdeal.Hand.run_result m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7, e8, e9⟩ := hargs c
  obtain ⟨hx, hw⟩ := Cert.Moe.finite_of_pre _ _ _ _ _ _ _ _ _ _ (hpre c)
  rw [Cert.ReferenceIdeal.Read.val_main_v73_eq, e0, e1, e2, e3, e4, e5, e6, e7, e8, e9]
  funext p
  exact Cert.ReferenceIdeal.Hand.v73_eq _ _ _ _ _ _ _ _ _ _ (Cert.Moe.at2_real _ hx) (Cert.Moe.at2_real _ hw) p

/-- Every claim of the certificate. -/
theorem claim : Cert.Claim := ⟨Cert.Kernel.Gen.facts, Cert.KernelIdeal.Gen.facts, Cert.ReferenceIdeal.Gen.facts,
  Cert.Pre_router_finite.Gen.facts,
  fun m g _ => Cert.Kernel.Hand.frame_all m g,
  fun m g _ => Cert.KernelIdeal.Hand.frame_all m g,
  fun m g _ => Cert.KernelIdeal.Hand.frame_all m g,
  reference_frame, fun m g _ => reference_frame m g trivial, trivial, same_result⟩

end Cert.Proof

end
